-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_and_keys_KernelIdeal [hPre_finite_queries_and_keys_KernelIdeal : Cert.Pre_finite_queries_and_keys_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_and_keys_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_and_keys_ReferenceIdeal [hPre_finite_queries_and_keys_ReferenceIdeal : Cert.Pre_finite_queries_and_keys_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_and_keys_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_queries_and_keys_KernelIdeal [hKernelIdeal : Cert.KernelIdeal.Facts] [hPre_finite_queries_and_keys_KernelIdeal : Cert.Pre_finite_queries_and_keys_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_and_keys_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_queries_and_keys_ReferenceIdeal [hReferenceIdeal : Cert.ReferenceIdeal.Facts] [hPre_finite_queries_and_keys_ReferenceIdeal : Cert.Pre_finite_queries_and_keys_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_and_keys_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_queries_and_keys_KernelIdeal [hKernelIdeal : Cert.KernelIdeal.Facts] [hReferenceIdeal : Cert.ReferenceIdeal.Facts] [hPre_finite_queries_and_keys_KernelIdeal : Cert.Pre_finite_queries_and_keys_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_and_keys_KernelIdeal m →
    (∀ c : Dev Cert.KernelIdeal.nD,
      m ((c.tc : Thread Cert.KernelIdeal.nD Cert.KernelIdeal.τ).loc Cert.KernelIdeal.main_arg0) = Layout.blockN ⟨4, ![1, 1024, 16, 128]⟩ ⟨4, ![1, 2048, 16, 128]⟩ (Layout.meshBlock [2, 2] ![[], [1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨4, ![1, 1024, 16, 128]⟩ ⟨4, ![1, 2048, 16, 128]⟩ (Layout.meshBlock [2, 2] ![[], [1], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![1, 1024, 16, 128]⟩ ⟨4, ![1, 2048, 16, 128]⟩ (Layout.meshBlock [2, 2] ![[], [1], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = Layout.blockN ⟨4, ![1, 1024, 16, 128]⟩ ⟨4, ![1, 2048, 16, 128]⟩ (Layout.meshBlock [2, 2] ![[], [1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_queries_and_keys_KernelIdeal : Cert.Pre_finite_queries_and_keys_KernelIdeal.Facts) (hPre_finite_queries_and_keys_ReferenceIdeal : Cert.Pre_finite_queries_and_keys_ReferenceIdeal.Facts),
    quiescent_Kernel (hKernel := hKernel)
    ∧ quiescent_KernelIdeal (hKernelIdeal := hKernelIdeal)
    ∧ quiescent_KernelIdeal_pre_finite_queries_and_keys_KernelIdeal (hKernelIdeal := hKernelIdeal) (hPre_finite_queries_and_keys_KernelIdeal := hPre_finite_queries_and_keys_KernelIdeal)
    ∧ quiescent_ReferenceIdeal (hReferenceIdeal := hReferenceIdeal)
    ∧ quiescent_ReferenceIdeal_pre_finite_queries_and_keys_ReferenceIdeal (hReferenceIdeal := hReferenceIdeal) (hPre_finite_queries_and_keys_ReferenceIdeal := hPre_finite_queries_and_keys_ReferenceIdeal)
    ∧ preserves_Kernel_KernelIdeal
    ∧ algebraic_KernelIdeal_ReferenceIdeal_pre_finite_queries_and_keys_KernelIdeal (hKernelIdeal := hKernelIdeal) (hReferenceIdeal := hReferenceIdeal) (hPre_finite_queries_and_keys_KernelIdeal := hPre_finite_queries_and_keys_KernelIdeal)
-- ==== Pre_finite_queries_and_keys_KernelIdeal.lean ====
abbrev S1x1024x16x128 : Shape := ⟨4, ![1, 1024, 16, 128]⟩
abbrev S_ : Shape := ⟨0, ![]⟩

class Facts : Prop where
  bcast_S_S1x1024x16x128 : S_.BroadcastsInDim S1x1024x16x128 (![] : Fin 0 → Fin S1x1024x16x128.rank)

variable [Facts]

def fn {F : FTy → Type} [FloatOps F] (main_arg0 : FVec F S1x1024x16x128 .f32) (main_arg1 : FVec F S1x1024x16x128 .f32) (main_arg2 : FVec F S1x1024x16x128 .f32) : IVec S1x1024x16x128 1 :=
  let main_v0 : FVec F S1x1024x16x128 .f32 := Host.absf main_arg0
  let main_cst : FVec F S_ .f32 := constant S_ .f32 0x7F800000#32
  let main_v1 : FVec F S1x1024x16x128 .f32 := broadcastInDim S1x1024x16x128 ![] bcast_S_S1x1024x16x128 main_cst
  let main_v2 : IVec S1x1024x16x128 1 := cmpf .olt main_v0 main_v1
  let main_v3 : FVec F S1x1024x16x128 .f32 := Host.absf main_arg1
  let main_cst_0 : FVec F S_ .f32 := constant S_ .f32 0x7F800000#32
  let main_v4 : FVec F S1x1024x16x128 .f32 := broadcastInDim S1x1024x16x128 ![] bcast_S_S1x1024x16x128 main_cst_0
  let main_v5 : IVec S1x1024x16x128 1 := cmpf .olt main_v3 main_v4
  let main_v6 : IVec S1x1024x16x128 1 := andi main_v2 main_v5
  main_v6
-- ==== Pre_finite_queries_and_keys_ReferenceIdeal.lean ====
abbrev S1x2048x16x128 : Shape := ⟨4, ![1, 2048, 16, 128]⟩
abbrev S_ : Shape := ⟨0, ![]⟩

class Facts : Prop where
  bcast_S_S1x2048x16x128 : S_.BroadcastsInDim S1x2048x16x128 (![] : Fin 0 → Fin S1x2048x16x128.rank)

variable [Facts]

def fn {F : FTy → Type} [FloatOps F] (main_arg0 : FVec F S1x2048x16x128 .f32) (main_arg1 : FVec F S1x2048x16x128 .f32) (main_arg2 : FVec F S1x2048x16x128 .f32) : IVec S1x2048x16x128 1 :=
  let main_v0 : FVec F S1x2048x16x128 .f32 := Host.absf main_arg0
  let main_cst : FVec F S_ .f32 := constant S_ .f32 0x7F800000#32
  let main_v1 : FVec F S1x2048x16x128 .f32 := broadcastInDim S1x2048x16x128 ![] bcast_S_S1x2048x16x128 main_cst
  let main_v2 : IVec S1x2048x16x128 1 := cmpf .olt main_v0 main_v1
  let main_v3 : FVec F S1x2048x16x128 .f32 := Host.absf main_arg1
  let main_cst_0 : FVec F S_ .f32 := constant S_ .f32 0x7F800000#32
  let main_v4 : FVec F S1x2048x16x128 .f32 := broadcastInDim S1x2048x16x128 ![] bcast_S_S1x2048x16x128 main_cst_0
  let main_v5 : IVec S1x2048x16x128 1 := cmpf .olt main_v3 main_v4
  let main_v6 : IVec S1x2048x16x128 1 := andi main_v2 main_v5
  main_v6
-- ==== Kernel.lean ====
abbrev S1x1024x16x128 : Shape := ⟨4, ![1, 1024, 16, 128]⟩
abbrev S_ : Shape := ⟨0, ![]⟩
abbrev S1024x16x128 : Shape := ⟨3, ![1024, 16, 128]⟩
abbrev S1024x8x128 : Shape := ⟨3, ![1024, 8, 128]⟩
abbrev S8x1024x128 : Shape := ⟨3, ![8, 1024, 128]⟩
abbrev S1024x8x256 : Shape := ⟨3, ![1024, 8, 256]⟩
abbrev S16x1024x128 : Shape := ⟨3, ![16, 1024, 128]⟩
abbrev S1x1024x128 : Shape := ⟨3, ![1, 1024, 128]⟩
abbrev S8x1024x256 : Shape := ⟨3, ![8, 1024, 256]⟩
abbrev S4 : Shape := ⟨1, ![4]⟩
abbrev S1024x1x256 : Shape := ⟨3, ![1024, 1, 256]⟩
abbrev S1024x256 : Shape := ⟨2, ![1024, 256]⟩
abbrev S1x1024x256 : Shape := ⟨3, ![1, 1024, 256]⟩
abbrev S1 : Shape := ⟨1, ![1]⟩
abbrev S2x1024x256 : Shape := ⟨3, ![2, 1024, 256]⟩
abbrev S1024x128 : Shape := ⟨2, ![1024, 128]⟩
abbrev S1024x1024 : Shape := ⟨2, ![1024, 1024]⟩
abbrev S1024x1 : Shape := ⟨2, ![1024, 1]⟩
abbrev S2x1024x128 : Shape := ⟨3, ![2, 1024, 128]⟩

abbrev nBuf : Space → Nat
  | .hbm => 44
  | .vmem => 6
  | .smem => 0
  | _ => 0

abbrev bufTy : (tb : Table) → Fin (tcTables nBuf tb) → BufTy
  | .hbm, ⟨0, _⟩ => ⟨S1x1024x16x128, .f32⟩
  | .hbm, ⟨1, _⟩ => ⟨S1x1024x16x128, .f32⟩
  | .hbm, ⟨2, _⟩ => ⟨S1x1024x16x128, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S1024x16x128, .f32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S1024x8x128, .f32⟩
  | .hbm, ⟨20, _⟩ => ⟨S8x1024x128, .f32⟩
  | .hbm, ⟨21, _⟩ => ⟨S1024x16x128, .f32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S1024x8x128, .f32⟩
  | .hbm, ⟨30, _⟩ => ⟨S1024x16x128, .f32⟩
  | .hbm, ⟨31, _⟩ => ⟨S_, .i32⟩
  | .hbm, ⟨32, _⟩ => ⟨S_, .i1⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S1024x8x128, .f32⟩
  | .hbm, ⟨39, _⟩ => ⟨S1024x8x256, .f32⟩
  | .hbm, ⟨40, _⟩ => ⟨S1024x8x256, .bf16⟩
  | .hbm, ⟨41, _⟩ => ⟨S16x1024x128, .bf16⟩
  | .hbm, ⟨42, _⟩ => ⟨S1024x16x128, .bf16⟩
  | .hbm, ⟨43, _⟩ => ⟨S1x1024x16x128, .bf16⟩
  | .local _ .vmem, ⟨0, _⟩ => ⟨S1x1024x128, .f32⟩
  | .local _ .vmem, ⟨1, _⟩ => ⟨S1x1024x128, .f32⟩
  | .local _ .vmem, ⟨2, _⟩ => ⟨S1024x8x256, .bf16⟩
  | .local _ .vmem, ⟨3, _⟩ => ⟨S16x1024x128, .bf16⟩
  | .local _ .vmem, ⟨4, _⟩ => ⟨S8x1024x256, .bf16⟩
  | .local _ .vmem, ⟨5, _⟩ => ⟨S8x1024x256, .bf16⟩
  | _, _ => ⟨S1x1024x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_v5 : Ref sig .tc := ⟨.hbm, 10, rfl⟩
abbrev main_v6 : Ref sig .tc := ⟨.hbm, 11, rfl⟩
abbrev main_c_2 : Ref sig .tc := ⟨.hbm, 12, rfl⟩
abbrev main_v7 : Ref sig .tc := ⟨.hbm, 13, rfl⟩
abbrev main_c_3 : Ref sig .tc := ⟨.hbm, 14, rfl⟩
abbrev main_v8 : Ref sig .tc := ⟨.hbm, 15, rfl⟩
abbrev main_v9 : Ref sig .tc := ⟨.hbm, 16, rfl⟩
abbrev main_c_4 : Ref sig .tc := ⟨.hbm, 17, rfl⟩
abbrev main_c_5 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_6 : Ref sig .tc := ⟨.hbm, 22, rfl⟩
abbrev main_v13 : Ref sig .tc := ⟨.hbm, 23, rfl⟩
abbrev main_c_7 : Ref sig .tc := ⟨.hbm, 24, rfl⟩
abbrev main_v14 : Ref sig .tc := ⟨.hbm, 25, rfl⟩
abbrev main_v15 : Ref sig .tc := ⟨.hbm, 26, rfl⟩
abbrev main_c_8 : Ref sig .tc := ⟨.hbm, 27, rfl⟩
abbrev main_c_9 : Ref sig .tc := ⟨.hbm, 28, rfl⟩
abbrev main_v16 : Ref sig .tc := ⟨.hbm, 29, rfl⟩
abbrev main_v17 : Ref sig .tc := ⟨.hbm, 30, rfl⟩
abbrev main_c_10 : Ref sig .tc := ⟨.hbm, 31, rfl⟩
abbrev main_v18 : Ref sig .tc := ⟨.hbm, 32, rfl⟩
abbrev main_c_11 : Ref sig .tc := ⟨.hbm, 33, rfl⟩
abbrev main_v19 : Ref sig .tc := ⟨.hbm, 34, rfl⟩
abbrev main_v20 : Ref sig .tc := ⟨.hbm, 35, rfl⟩
abbrev main_c_12 : Ref sig .tc := ⟨.hbm, 36, rfl⟩
abbrev main_c_13 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev barrier0 : Sem sig := 0

abbrev nD : Nat := 4
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v9 : BitVec 1 := Scalar.cmpi .eq arg0 c0_i32
  let v10 : BitVec 32 := Scalar.extui v9
  let c0_i32_4 : BitVec 32 := 0#32
  let v11 : BitVec 1 := Scalar.cmpi .ne v10 c0_i32_4
  v11

def k0_dev1 (d0 : Dev nD) : Nat :=
  let c0_i32_39 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_38 : BitVec 32 := 2#32
  let v78 : BitVec 32 := Scalar.muli v2 c2_i32_38
  let v79 : BitVec 32 := Scalar.addi c0_i32_39 v78
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_40 : BitVec 32 := 1#32
  let v80 : BitVec 32 := Scalar.muli v6 c1_i32_40
  let v81 : BitVec 32 := Scalar.addi v79 v80
  v81.toNat
def k0_dev2 (d0 : Dev nD) : Nat :=
  let c0_i32_43 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_42 : BitVec 32 := 2#32
  let v82 : BitVec 32 := Scalar.muli v7 c2_i32_42
  let v83 : BitVec 32 := Scalar.addi c0_i32_43 v82
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_44 : BitVec 32 := 1#32
  let v84 : BitVec 32 := Scalar.muli v5 c1_i32_44
  let v85 : BitVec 32 := Scalar.addi v83 v84
  v85.toNat
def k0_dev3 (d0 : Dev nD) : Nat :=
  let c0_i32_60 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_59 : BitVec 32 := 2#32
  let v96 : BitVec 32 := Scalar.muli v2 c2_i32_59
  let v97 : BitVec 32 := Scalar.addi c0_i32_60 v96
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_61 : BitVec 32 := 1#32
  let v98 : BitVec 32 := Scalar.muli v6 c1_i32_61
  let v99 : BitVec 32 := Scalar.addi v97 v98
  v99.toNat
def k0_dev4 (d0 : Dev nD) : Nat :=
  let c0_i32_81 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_80 : BitVec 32 := 2#32
  let v116 : BitVec 32 := Scalar.muli v2 c2_i32_80
  let v117 : BitVec 32 := Scalar.addi c0_i32_81 v116
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_82 : BitVec 32 := 1#32
  let v118 : BitVec 32 := Scalar.muli v6 c1_i32_82
  let v119 : BitVec 32 := Scalar.addi v117 v118
  v119.toNat
def k0_dev5 (d0 : Dev nD) : Nat :=
  let c0_i32_102 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_101 : BitVec 32 := 2#32
  let v136 : BitVec 32 := Scalar.muli v2 c2_i32_101
  let v137 : BitVec 32 := Scalar.addi c0_i32_102 v136
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_103 : BitVec 32 := 1#32
  let v138 : BitVec 32 := Scalar.muli v6 c1_i32_103
  let v139 : BitVec 32 := Scalar.addi v137 v138
  v139.toNat
def k0_dev6 (d0 : Dev nD) : Nat :=
  let c0_i32_121 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_120 : BitVec 32 := 2#32
  let v156 : BitVec 32 := Scalar.muli v2 c2_i32_120
  let v157 : BitVec 32 := Scalar.addi c0_i32_121 v156
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_122 : BitVec 32 := 1#32
  let v158 : BitVec 32 := Scalar.muli v6 c1_i32_122
  let v159 : BitVec 32 := Scalar.addi v157 v158
  v159.toNat
def k0_cond2 (i : grid0.Coords) : BitVec 1 :=
  let arg0 : BitVec 32 := BitVec.ofNat 32 (i 0).val
  let c2_i32_5 : BitVec 32 := 2#32
  let c0_i32_6 : BitVec 32 := 0#32
  let v12 : BitVec 1 := Scalar.cmpi .eq c2_i32_5 c0_i32_6
  let c1_i32_7 : BitVec 32 := 1#32
  let v13 : BitVec 32 := Scalar.select v12 c1_i32_7 c2_i32_5
  let v14 : BitVec 32 := Scalar.remsi arg0 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let c0_i32_11 : BitVec 32 := 0#32
  let v22 : BitVec 1 := Scalar.cmpi .eq v21 c0_i32_11
  let v23 : BitVec 32 := Scalar.extui v22
  let c0_i32_12 : BitVec 32 := 0#32
  let v24 : BitVec 1 := Scalar.cmpi .ne v23 c0_i32_12
  v24

def k0_off1 (i : grid0.Coords) : Fin 1 → Nat :=
  let arg0 : BitVec 32 := BitVec.ofNat 32 (i 0).val
  let c0_i32_38 : BitVec 32 := 0#32
  let v78 : BitVec 1 := Scalar.cmpi .sgt arg0 c0_i32_38
  let v79 : BitVec 32 := Scalar.extui v78
  let c0_i32_39 : BitVec 32 := 0#32
  let v80 : BitVec 1 := Scalar.cmpi .slt arg0 c0_i32_39
  let v81 : BitVec 32 := Scalar.extui v80
  let v82 : BitVec 32 := Scalar.subi v79 v81
  let c2_i32_37 : BitVec 32 := 2#32
  let c0_i32_40 : BitVec 32 := 0#32
  let v83 : BitVec 1 := Scalar.cmpi .sgt c2_i32_37 c0_i32_40
  let v84 : BitVec 32 := Scalar.extui v83
  let c0_i32_41 : BitVec 32 := 0#32
  let v85 : BitVec 1 := Scalar.cmpi .slt c2_i32_37 c0_i32_41
  let v86 : BitVec 32 := Scalar.extui v85
  let v87 : BitVec 32 := Scalar.subi v84 v86
  let v88 : BitVec 1 := Scalar.cmpi .ne v82 v87
  let v89 : BitVec 32 := Scalar.remsi arg0 c2_i32_37
  let c0_i32_42 : BitVec 32 := 0#32
  let v90 : BitVec 1 := Scalar.cmpi .ne v89 c0_i32_42
  let v91 : BitVec 1 := Scalar.andi v88 v90
  let v77 : BitVec 32 := Scalar.divsi arg0 c2_i32_37
  let c1_i32_43 : BitVec 32 := 1#32
  let v92 : BitVec 32 := Scalar.subi v77 c1_i32_43
  let v93 : BitVec 32 := Scalar.select v91 v92 v77
  ![v93.toNat]
def k0_off2 (i : grid0.Coords) : Fin 3 → Nat :=
  let c2_i32_45 : BitVec 32 := 2#32
  let arg0 : BitVec 32 := BitVec.ofNat 32 (i 0).val
  let c0_i32_38 : BitVec 32 := 0#32
  let v78 : BitVec 1 := Scalar.cmpi .sgt arg0 c0_i32_38
  let v79 : BitVec 32 := Scalar.extui v78
  let c0_i32_39 : BitVec 32 := 0#32
  let v80 : BitVec 1 := Scalar.cmpi .slt arg0 c0_i32_39
  let v81 : BitVec 32 := Scalar.extui v80
  let v82 : BitVec 32 := Scalar.subi v79 v81
  let c2_i32_37 : BitVec 32 := 2#32
  let c0_i32_40 : BitVec 32 := 0#32
  let v83 : BitVec 1 := Scalar.cmpi .sgt c2_i32_37 c0_i32_40
  let v84 : BitVec 32 := Scalar.extui v83
  let c0_i32_41 : BitVec 32 := 0#32
  let v85 : BitVec 1 := Scalar.cmpi .slt c2_i32_37 c0_i32_41
  let v86 : BitVec 32 := Scalar.extui v85
  let v87 : BitVec 32 := Scalar.subi v84 v86
  let v88 : BitVec 1 := Scalar.cmpi .ne v82 v87
  let v89 : BitVec 32 := Scalar.remsi arg0 c2_i32_37
  let c0_i32_42 : BitVec 32 := 0#32
  let v90 : BitVec 1 := Scalar.cmpi .ne v89 c0_i32_42
  let v91 : BitVec 1 := Scalar.andi v88 v90
  let v77 : BitVec 32 := Scalar.divsi arg0 c2_i32_37
  let c1_i32_43 : BitVec 32 := 1#32
  let v92 : BitVec 32 := Scalar.subi v77 c1_i32_43
  let v93 : BitVec 32 := Scalar.select v91 v92 v77
  let v95 : BitVec 32 := Scalar.muli c2_i32_45 v93
  let c0_i32_49 : BitVec 32 := 0#32
  let c0_i32_50 : BitVec 32 := 0#32
  ![v95.toNat, 0, 0]
def k0_off3 (i : grid0.Coords) : Fin 3 → Nat :=
  let arg0 : BitVec 32 := BitVec.ofNat 32 (i 0).val
  let v27 : Index := Scalar.indexCast arg0
  let c0_15 : Index := 0#32
  let c0_16 : Index := 0#32
  ![v27.toNat, 0, 0]
def k0_off4 (i : grid0.Coords) (d0 : Dev nD) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8_i32 : BitVec 32 := 8#32
  let v8 : BitVec 32 := Scalar.muli v2 c8_i32
  let arg0 : BitVec 32 := BitVec.ofNat 32 (i 0).val
  let v56 : BitVec 32 := Scalar.addi v8 arg0
  let v57 : Index := Scalar.indexCast v56
  let c0_26 : Index := 0#32
  let c0_27 : Index := 0#32
  ![v57.toNat, 0, 0]
def k0_cond3 (i : grid0.Coords) : BitVec 1 :=
  let arg0 : BitVec 32 := BitVec.ofNat 32 (i 0).val
  let c2_i32_28 : BitVec 32 := 2#32
  let c0_i32_29 : BitVec 32 := 0#32
  let v61 : BitVec 1 := Scalar.cmpi .eq c2_i32_28 c0_i32_29
  let c1_i32_30 : BitVec 32 := 1#32
  let v62 : BitVec 32 := Scalar.select v61 c1_i32_30 c2_i32_28
  let v63 : BitVec 32 := Scalar.remsi arg0 v62
  let c0_i32_32 : BitVec 32 := 0#32
  let v65 : BitVec 1 := Scalar.cmpi .slt v63 c0_i32_32
  let c0_i32_33 : BitVec 32 := 0#32
  let v66 : BitVec 1 := Scalar.cmpi .slt v62 c0_i32_33
  let v67 : BitVec 1 := Scalar.xori v65 v66
  let c0_i32_31 : BitVec 32 := 0#32
  let v64 : BitVec 1 := Scalar.cmpi .ne v63 c0_i32_31
  let v68 : BitVec 1 := Scalar.andi v67 v64
  let v69 : BitVec 32 := Scalar.addi v63 v62
  let v70 : BitVec 32 := Scalar.select v68 v69 v63
  let c1_i32_34 : BitVec 32 := 1#32
  let v71 : BitVec 1 := Scalar.cmpi .eq v70 c1_i32_34
  let v72 : BitVec 32 := Scalar.extui v71
  let c0_i32_35 : BitVec 32 := 0#32
  let v73 : BitVec 1 := Scalar.cmpi .ne v72 c0_i32_35
  v73

def k0_off5 (i : grid0.Coords) : Fin 1 → Nat :=
  let arg0 : BitVec 32 := BitVec.ofNat 32 (i 0).val
  let c0_i32_38 : BitVec 32 := 0#32
  let v78 : BitVec 1 := Scalar.cmpi .sgt arg0 c0_i32_38
  let v79 : BitVec 32 := Scalar.extui v78
  let c0_i32_39 : BitVec 32 := 0#32
  let v80 : BitVec 1 := Scalar.cmpi .slt arg0 c0_i32_39
  let v81 : BitVec 32 := Scalar.extui v80
  let v82 : BitVec 32 := Scalar.subi v79 v81
  let c2_i32_37 : BitVec 32 := 2#32
  let c0_i32_40 : BitVec 32 := 0#32
  let v83 : BitVec 1 := Scalar.cmpi .sgt c2_i32_37 c0_i32_40
  let v84 : BitVec 32 := Scalar.extui v83
  let c0_i32_41 : BitVec 32 := 0#32
  let v85 : BitVec 1 := Scalar.cmpi .slt c2_i32_37 c0_i32_41
  let v86 : BitVec 32 := Scalar.extui v85
  let v87 : BitVec 32 := Scalar.subi v84 v86
  let v88 : BitVec 1 := Scalar.cmpi .ne v82 v87
  let v89 : BitVec 32 := Scalar.remsi arg0 c2_i32_37
  let c0_i32_42 : BitVec 32 := 0#32
  let v90 : BitVec 1 := Scalar.cmpi .ne v89 c0_i32_42
  let v91 : BitVec 1 := Scalar.andi v88 v90
  let v77 : BitVec 32 := Scalar.divsi arg0 c2_i32_37
  let c1_i32_43 : BitVec 32 := 1#32
  let v92 : BitVec 32 := Scalar.subi v77 c1_i32_43
  let v93 : BitVec 32 := Scalar.select v91 v92 v77
  ![v93.toNat]
def k0_off6 (i : grid0.Coords) (d0 : Dev nD) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8_i32 : BitVec 32 := 8#32
  let v8 : BitVec 32 := Scalar.muli v2 c8_i32
  let c2_i32_44 : BitVec 32 := 2#32
  let arg0 : BitVec 32 := BitVec.ofNat 32 (i 0).val
  let c0_i32_38 : BitVec 32 := 0#32
  let v78 : BitVec 1 := Scalar.cmpi .sgt arg0 c0_i32_38
  let v79 : BitVec 32 := Scalar.extui v78
  let c0_i32_39 : BitVec 32 := 0#32
  let v80 : BitVec 1 := Scalar.cmpi .slt arg0 c0_i32_39
  let v81 : BitVec 32 := Scalar.extui v80
  let v82 : BitVec 32 := Scalar.subi v79 v81
  let c2_i32_37 : BitVec 32 := 2#32
  let c0_i32_40 : BitVec 32 := 0#32
  let v83 : BitVec 1 := Scalar.cmpi .sgt c2_i32_37 c0_i32_40
  let v84 : BitVec 32 := Scalar.extui v83
  let c0_i32_41 : BitVec 32 := 0#32
  let v85 : BitVec 1 := Scalar.cmpi .slt c2_i32_37 c0_i32_41
  let v86 : BitVec 32 := Scalar.extui v85
  let v87 : BitVec 32 := Scalar.subi v84 v86
  let v88 : BitVec 1 := Scalar.cmpi .ne v82 v87
  let v89 : BitVec 32 := Scalar.remsi arg0 c2_i32_37
  let c0_i32_42 : BitVec 32 := 0#32
  let v90 : BitVec 1 := Scalar.cmpi .ne v89 c0_i32_42
  let v91 : BitVec 1 := Scalar.andi v88 v90
  let v77 : BitVec 32 := Scalar.divsi arg0 c2_i32_37
  let c1_i32_43 : BitVec 32 := 1#32
  let v92 : BitVec 32 := Scalar.subi v77 c1_i32_43
  let v93 : BitVec 32 := Scalar.select v91 v92 v77
  let v94 : BitVec 32 := Scalar.muli c2_i32_44 v93
  let v95 : BitVec 32 := Scalar.addi v8 v94
  let c0_i32_48 : BitVec 32 := 0#32
  let c0_i32_49 : BitVec 32 := 0#32
  ![v95.toNat, 0, 0]
def k0_dev7 (d0 : Dev nD) : Nat :=
  let c0_i32_46 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_45 : BitVec 32 := 2#32
  let v96 : BitVec 32 := Scalar.muli v7 c2_i32_45
  let v97 : BitVec 32 := Scalar.addi c0_i32_46 v96
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_47 : BitVec 32 := 1#32
  let v98 : BitVec 32 := Scalar.muli v5 c1_i32_47
  let v99 : BitVec 32 := Scalar.addi v97 v98
  v99.toNat
def k0_cond4 (i : grid0.Coords) : BitVec 1 :=
  let arg0 : BitVec 32 := BitVec.ofNat 32 (i 0).val
  let c7_i32 : BitVec 32 := 7#32
  let v74 : BitVec 1 := Scalar.cmpi .eq arg0 c7_i32
  let v75 : BitVec 32 := Scalar.extui v74
  let c0_i32_36 : BitVec 32 := 0#32
  let v76 : BitVec 1 := Scalar.cmpi .ne v75 c0_i32_36
  v76

def k0_off7 (d0 : Dev nD) (c0_i32_37 : BitVec 32) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8_i32 : BitVec 32 := 8#32
  let v8 : BitVec 32 := Scalar.muli v2 c8_i32
  let v77 : BitVec 32 := Scalar.addi v8 c0_i32_37
  let c0_i32_41 : BitVec 32 := 0#32
  let c0_i32_42 : BitVec 32 := 0#32
  ![v77.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x8x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S1x2048x16x128 : Shape := ⟨4, ![1, 2048, 16, 128]⟩
abbrev S1x16x2048x2048 : Shape := ⟨4, ![1, 16, 2048, 2048]⟩
abbrev S_ : Shape := ⟨0, ![]⟩
abbrev S1x16x2048 : Shape := ⟨3, ![1, 16, 2048]⟩
abbrev S1x16x2048x1 : Shape := ⟨4, ![1, 16, 2048, 1]⟩
abbrev S1x16x128x2048 : Shape := ⟨4, ![1, 16, 128, 2048]⟩

abbrev nBuf : Space → Nat
  | .hbm => 21
  | .vmem => 0
  | .smem => 0
  | _ => 0

abbrev bufTy : (tb : Table) → Fin (tcTables nBuf tb) → BufTy
  | .hbm, ⟨0, _⟩ => ⟨S1x2048x16x128, .f32⟩
  | .hbm, ⟨1, _⟩ => ⟨S1x2048x16x128, .f32⟩
  | .hbm, ⟨2, _⟩ => ⟨S1x2048x16x128, .f32⟩
  | .hbm, ⟨3, _⟩ => ⟨S1x16x2048x2048, .f32⟩
  | .hbm, ⟨4, _⟩ => ⟨S_, .f32⟩
  | .hbm, ⟨5, _⟩ => ⟨S1x16x2048x2048, .f32⟩
  | .hbm, ⟨6, _⟩ => ⟨S1x16x2048x2048, .f32⟩
  | .hbm, ⟨7, _⟩ => ⟨S_, .f32⟩
  | .hbm, ⟨8, _⟩ => ⟨S1x16x2048, .f32⟩
  | .hbm, ⟨9, _⟩ => ⟨S1x16x2048x1, .f32⟩
  | .hbm, ⟨10, _⟩ => ⟨S1x16x2048x2048, .f32⟩
  | .hbm, ⟨11, _⟩ => ⟨S1x16x2048x2048, .f32⟩
  | .hbm, ⟨12, _⟩ => ⟨S1x16x2048x2048, .f32⟩
  | .hbm, ⟨13, _⟩ => ⟨S_, .f32⟩
  | .hbm, ⟨14, _⟩ => ⟨S1x16x2048, .f32⟩
  | .hbm, ⟨15, _⟩ => ⟨S1x16x2048x1, .f32⟩
  | .hbm, ⟨16, _⟩ => ⟨S1x16x2048x2048, .f32⟩
  | .hbm, ⟨17, _⟩ => ⟨S1x16x2048x2048, .f32⟩
  | .hbm, ⟨18, _⟩ => ⟨S1x16x128x2048, .f32⟩
  | .hbm, ⟨19, _⟩ => ⟨S1x2048x16x128, .f32⟩
  | .hbm, ⟨20, _⟩ => ⟨S1x2048x16x128, .bf16⟩
  | _, _ => ⟨S1x2048x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.Protocol.lean ====
/-
  The protocol of the attention kernel on the 2 × 2 mesh, and the contents its transfers carry.

  Device `c` has two partners: `ynbr c` holds the other half of the sequence for the same heads, `xnbr c` the other
  half of the heads for the same sequence rows. At the first grid point the kernel meets both at its barrier semaphore,
  packs its keys and values per head and ships them, two heads at a time, to `ynbr c`. After every second point two
  finished rows of the result staging buffer go to the same rows of `xnbr c`'s staging buffer.

  Each semaphore cell has one round. The barrier cell has two duties (one per partner): the partner hands over the
  buffer the transfers will land in. Each transfer semaphore has one duty, whose payload names what landed.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.Regions
public import Idealize.ShloMosaic.Lib.Pipeline.Kit
public import Idealize.ShloMosaic.Lib.Rounds
public import Idealize.ShloMosaic.Lib.Transfers
public import Idealize.ShloMosaic.Lib.Tactic

@[expose] public section

noncomputable section

namespace Cert.Proof.Att

open Cert.KernelIdeal Cert.KernelIdeal.Gen
open Idealize.ShloMosaic Idealize.ShloMosaic.TcCoe Idealize.ShloMosaic.Rounds Idealize.ShloMosaic.Pipeline
open Idealize.SL Idealize.SL.RA Idealize.SL.BI
open scoped Idealize.SL.BI
open Idealize.SL.BI.BIBase Idealize.SL.BI.Laws Idealize.SL.Sem Idealize.SL.ProofMode

variable {F : FTy → Type} [FloatOps F]

/-! ## The ghost state's algebra -/

abbrev UP : Type := UR sig nD τ
abbrev UQ : Type := URounds (GSem nD τ sig) (Fin 2)
abbrev UU : Type := UP × (UQ × Counters)

local notation "𝕄" => MT nD τ sig Unit (Elt F) ℕ UU ℕ

abbrev EP : Emb UP (MT nD τ sig Unit (Elt F) ℕ UU ℕ) := embL
/-- The protocol's own rounds. -/
def ER : Emb UQ (MT nD τ sig Unit (Elt F) ℕ UU ℕ) :=
  ((Emb.inl : Emb UQ (UQ × Counters)).trans (Emb.inr : Emb (UQ × Counters) UU)).trans
    (uEmb (nD := nD) (sig := sig) (Ix := Unit) (Val := Elt F) (Name := ℕ) (U := UU) (Lvl := ℕ)).toEmb
instance ER_landsIn : (ER : Emb UQ 𝕄).LandsIn (upEmb : UEmb _ 𝕄) := by unfold ER; infer_instance
/-- The counters of the local staging transfers. -/
abbrev EC : UEmb Counters (MT nD τ sig Unit (Elt F) ℕ UU ℕ) := countersEmb

/-! ## The mesh -/

def ynbr (c : Dev nD) : Dev nD := (![1, 0, 3, 2] : Fin 4 → Fin 4) c
def xnbr (c : Dev nD) : Dev nD := (![2, 3, 0, 1] : Fin 4 → Fin 4) c
theorem ynbr_ynbr : ∀ c, ynbr (ynbr c) = c := by decide
theorem xnbr_xnbr : ∀ c, xnbr (xnbr c) = c := by decide
theorem xnbr_div : ∀ c : Dev nD, (xnbr c).val / 2 = 1 - c.val / 2 := by decide
theorem div_lt : ∀ c : Dev nD, c.val / 2 < 2 := by decide
def yEquiv : Dev nD ≃ Dev nD := ⟨ynbr, ynbr, ynbr_ynbr, ynbr_ynbr⟩
def xEquiv : Dev nD ≃ Dev nD := ⟨xnbr, xnbr, xnbr_xnbr, xnbr_xnbr⟩

theorem dev1 (c : Dev nD) (h : k0_dev1 c < nD) : (⟨k0_dev1 c, h⟩ : Dev nD) = ynbr c := Fin.ext (by revert c; decide)
theorem dev2 (c : Dev nD) (h : k0_dev2 c < nD) : (⟨k0_dev2 c, h⟩ : Dev nD) = xnbr c := Fin.ext (by revert c; decide)
theorem dev3 (c : Dev nD) (h : k0_dev3 c < nD) : (⟨k0_dev3 c, h⟩ : Dev nD) = ynbr c := Fin.ext (by revert c; decide)
theorem dev4 (c : Dev nD) (h : k0_dev4 c < nD) : (⟨k0_dev4 c, h⟩ : Dev nD) = ynbr c := Fin.ext (by revert c; decide)
theorem dev5 (c : Dev nD) (h : k0_dev5 c < nD) : (⟨k0_dev5 c, h⟩ : Dev nD) = ynbr c := Fin.ext (by revert c; decide)
theorem dev6 (c : Dev nD) (h : k0_dev6 c < nD) : (⟨k0_dev6 c, h⟩ : Dev nD) = ynbr c := Fin.ext (by revert c; decide)
theorem dev7 (c : Dev nD) (h : k0_dev7 c < nD) : (⟨k0_dev7 c, h⟩ : Dev nD) = xnbr c := Fin.ext (by revert c; decide)

/-! ## The buffers -/

abbrev kvM : Memref sig .tc .vmem S8x1024x256 .bf16 := Memref.whole cc0_scratch0
abbrev kvoM : Memref sig .tc .vmem S8x1024x256 .bf16 := Memref.whole cc0_scratch1
abbrev oM : Memref sig .tc .vmem S16x1024x128 .bf16 := Memref.whole cc0_stg2_0
abbrev sM : Memref sig .tc .vmem S1024x8x256 .bf16 := Memref.whole cc0_stg1_0
abbrev qM0 : Memref sig .tc .vmem S1x1024x128 .f32 := Memref.whole cc0_stg0_0
abbrev qM1 : Memref sig .tc .vmem S1x1024x128 .f32 := Memref.whole cc0_stg0_1

/-- The rows `2 n`, `2 n + 1` of the key/value scratches. -/
def kset (n : ℕ) : Finset S8x1024x256.Idx := Finset.univ.filter fun i => (i 0).val / 2 = n
/-- The rows `2 n`, `2 n + 1` of the result's staging buffer. -/
def oset (n : ℕ) : Finset S16x1024x128.Idx := Finset.univ.filter fun i => (i 0).val / 2 = n
/-- The heads of device `c`'s half, two at a time, as pairs of rows of the staging buffer. -/
def og (c : Dev nD) (g : Fin 4) : ℕ := 4 * (c.val / 2) + g.val

theorem set_kv (o : Fin 3 → ℕ) (h : ∀ a, o a + S2x1024x256.size a ≤ S8x1024x256.size a) (n : ℕ) (ho : o = ![2 * n, 0, 0]) :
    (kvM.slice (Rect.unit (s := S8x1024x256) o S2x1024x256.size h) (fun _ => rfl)).view.set = kset n := by
  subst ho
  ext i
  simp only [kset, Memref.slice, View.set_slice_whole, Rect.mem_set_unit, Finset.mem_filter, Finset.mem_univ, true_and]
  have h1 : (i 1).val < 1024 := (i 1).isLt
  have h2 : (i 2).val < 256 := (i 2).isLt
  constructor
  · intro h
    have h0 : 2 * n ≤ (i 0).val ∧ (i 0).val < 2 * n + 2 := h 0
    show (i 0).val / 2 = n
    omega
  · intro (h : (i 0).val / 2 = n) a
    match a with
    | ⟨0, _⟩ => exact (show 2 * n ≤ (i 0).val ∧ (i 0).val < 2 * n + 2 by omega)
    | ⟨1, _⟩ => exact (show 0 ≤ (i 1).val ∧ (i 1).val < 0 + 1024 by omega)
    | ⟨2, _⟩ => exact (show 0 ≤ (i 2).val ∧ (i 2).val < 0 + 256 by omega)

theorem set_kvo (o : Fin 3 → ℕ) (h : ∀ a, o a + S2x1024x256.size a ≤ S8x1024x256.size a) (n : ℕ) (ho : o = ![2 * n, 0, 0]) :
    (kvoM.slice (Rect.unit (s := S8x1024x256) o S2x1024x256.size h) (fun _ => rfl)).view.set = kset n := by
  rw [← set_kv o h n ho]
  simp only [Memref.slice, View.set_slice_whole]

theorem set_o (o : Fin 3 → ℕ) (h : ∀ a, o a + S2x1024x128.size a ≤ S16x1024x128.size a) (n : ℕ) (ho : o = ![2 * n, 0, 0]) :
    (oM.slice (Rect.unit (s := S16x1024x128) o S2x1024x128.size h) (fun _ => rfl)).view.set = oset n := by
  subst ho
  ext i
  simp only [oset, Memref.slice, View.set_slice_whole, Rect.mem_set_unit, Finset.mem_filter, Finset.mem_univ, true_and]
  have h1 : (i 1).val < 1024 := (i 1).isLt
  have h2 : (i 2).val < 128 := (i 2).isLt
  constructor
  · intro h
    have h0 : 2 * n ≤ (i 0).val ∧ (i 0).val < 2 * n + 2 := h 0
    show (i 0).val / 2 = n
    omega
  · intro (h : (i 0).val / 2 = n) a
    match a with
    | ⟨0, _⟩ => exact (show 2 * n ≤ (i 0).val ∧ (i 0).val < 2 * n + 2 by omega)
    | ⟨1, _⟩ => exact (show 0 ≤ (i 1).val ∧ (i 1).val < 0 + 1024 by omega)
    | ⟨2, _⟩ => exact (show 0 ≤ (i 2).val ∧ (i 2).val < 0 + 128 by omega)

/-! ## Contents -/

/-- The key/value scratch as the per-head transposition of the staged window. -/
def kvT {X : Type} (f : S1024x8x256.Idx → X) : S8x1024x256.Idx → X :=
  fun i => f (fun a => match a with | ⟨0, _⟩ => i 1 | ⟨1, _⟩ => i 0 | ⟨2, _⟩ => i 2)
/-- Row `s` of a three-axis array, as one row. -/
def rowK {X : Type} (f : S8x1024x256.Idx → X) (s : Fin 8) : S1x1024x256.Idx → X :=
  fun j => f (fun a => match a with | ⟨0, _⟩ => s | ⟨1, _⟩ => j 1 | ⟨2, _⟩ => j 2)
def rowQ {X : Type} (f : S8x1024x128.Idx → X) (s : Fin 8) : S1x1024x128.Idx → X :=
  fun j => f (fun a => match a with | ⟨0, _⟩ => s | ⟨1, _⟩ => j 1 | ⟨2, _⟩ => j 2)
/-- One head's result from its query row, its own keys and values and the partner's. -/
def resRow (q : Vec F S1x1024x128 .f32) (kv kvo : Vec F S1x1024x256 .bf16) : FVec F S1x1024x128 .bf16 :=
  k0_pay13 (k0_pay11 q) (k0_pay12 kv) kvo

variable (m : (ℓ : Loc nD τ sig) → Buf (Elt F) ℓ) (ρ : Dev nD → PrngReg)

/-- The host's valuation at the kernel's entry. -/
abbrev VA (c : Dev nD) : Valuation τ sig (Elt F) := StableHlo.after (hostOps0 c) (fun b => m (c, b))
def QA (c : Dev nD) : S8x1024x128.Idx → Elt F .f32 := VA m c main_v11
def SA (c : Dev nD) : S1024x8x256.Idx → Elt F .bf16 := VA m c main_v23
def KV (c : Dev nD) : S8x1024x256.Idx → Elt F .bf16 := kvT (SA m c)
/-- Head `s` of device `d`'s half. -/
def RES (d : Dev nD) (s : Fin 8) : S1x1024x128.Idx → Elt F .bf16 :=
  resRow (rowQ (QA m d) s) (rowK (KV m d) s) (rowK (KV m (ynbr d)) s)
/-- The device among `c` and its partner along x whose half of the heads row `r` of the result belongs to. -/
def own (c : Dev nD) (r : ℕ) : Dev nD := if r / 8 = c.val / 2 then c else xnbr c
/-- The result's staging buffer at the end. -/
def OUT (c : Dev nD) : S16x1024x128.Idx → Elt F .bf16 := fun i =>
  RES m (own c (i 0).val) ⟨(i 0).val % 8, Nat.mod_lt _ (by decide)⟩ (fun a => match a with | ⟨0, _⟩ => (⟨0, Nat.one_pos⟩ : Fin 1) | ⟨1, _⟩ => i 1 | ⟨2, _⟩ => i 2)

theorem own_xnbr : ∀ (c : Dev nD) (r : Fin 16), own (xnbr c) r.val = own c r.val := by decide
theorem OUT_xnbr (c : Dev nD) : OUT m (xnbr c) = OUT m c := by
  funext i; unfold OUT; rw [own_xnbr c (i 0)]

/-! ## The pieces -/

abbrev kvP (c : Dev nD) (n : ℕ) (f : S8x1024x256.Idx → Elt F .bf16) : sProp 𝕄 := kvM.view.loc (c : Thread nD τ) ↦[kset n]{fullShare} f
abbrev kvoP (c : Dev nD) (n : ℕ) (f : S8x1024x256.Idx → Elt F .bf16) : sProp 𝕄 := kvoM.view.loc (c : Thread nD τ) ↦[kset n]{fullShare} f
abbrev oP (c : Dev nD) (n : ℕ) (f : S16x1024x128.Idx → Elt F .bf16) : sProp 𝕄 := oM.view.loc (c : Thread nD τ) ↦[oset n]{fullShare} f

/-! ## The cells and the schedule -/

abbrev bS : Sem sig := sig.barrier 0 rfl
/-- The transfers' semaphores: `0` sources of the key/value transfers, `1` their landings, `2` sources of the
    result transfers, `3` their landings; one per pair of heads. -/
abbrev dS (k g : Fin 4) : DmaSem sig := ⟨4 + 4 * k.val + g.val, by show _ < 20; omega⟩
abbrev barCell (c : Dev nD) : GSem nD τ sig := ((c : Thread nD τ), .reg bS)
abbrev dCell (c : Dev nD) (k g : Fin 4) : GSem nD τ sig := ((c : Thread nD τ), .dma (dS k g))

def kOf (s : ℕ) : Fin 4 := ⟨(s - 4) / 4 % 4, Nat.mod_lt _ (by decide)⟩
def gOf (s : ℕ) : Fin 4 := ⟨(s - 4) % 4, Nat.mod_lt _ (by decide)⟩

abbrev N1 : ℕ := (kvoM.slice (Rect.unit (s := S8x1024x256) ![0, 0, 0] S2x1024x256.size inb_S8x1024x256_S2x1024x256_0_0_0) (fun _ => rfl)).view.dmaCredit
theorem inb_o : ∀ a, (![0, 0, 0] : Fin 3 → ℕ) a + S2x1024x128.size a ≤ S16x1024x128.size a := by decide
abbrev N2 : ℕ := (oM.slice (Rect.unit (s := S16x1024x128) ![0, 0, 0] S2x1024x128.size inb_o) (fun _ => rfl)).view.dmaCredit
theorem N1_pos : 0 < N1 := View.dmaCredit_pos _ (by decide)
theorem N2_pos : 0 < N2 := View.dmaCredit_pos _ (by decide)

def NK (k : Fin 4) : ℕ := if k.val < 2 then N1 else N2
theorem NK_pos (k : Fin 4) : 0 < NK k := by unfold NK; split; exacts [N1_pos, N2_pos]

/-- What device `c` finds at its barrier from its partner along y: where the key/value transfers land. -/
def barY (c : Dev nD) : sProp 𝕄 :=
  bigSep Finset.univ fun g : Fin 4 => iprop((∃ f, kvoP (ynbr c) g.val f) ∗ reached ER (dCell (ynbr c) 1 g) 0)
/-- From its partner along x: where the result transfers land. -/
def barX (c : Dev nD) : sProp 𝕄 :=
  bigSep Finset.univ fun g : Fin 4 => iprop((∃ f, oP (xnbr c) (og c g) f) ∗ reached ER (dCell (xnbr c) 3 g) 0)

def dPay (c : Dev nD) (k g : Fin 4) : sProp 𝕄 :=
  if k = 0 then kvP c g.val (KV m c)
  else if k = 1 then kvoP c g.val (KV m (ynbr c))
  else if k = 2 then oP c (og c g) (OUT m c)
  else oP c (og (xnbr c) g) (OUT m c)

def sched : Rounds.Schedule (GSem nD τ sig) (Fin 2) 𝕄 where
  duties g r := if r = 0 ∧ g.1.2 = .tc then
      (match g.2 with
        | .reg s => if s = bS then Finset.univ else ∅
        | .dma s => if 4 ≤ s.val then {0} else ∅) else ∅
  unitless _ := False
  amount g _ _ := match g.2 with | .reg _ => 1 | .dma s => NK (kOf s.val)
  payload g r d := match g.2 with
    | .reg _ => if d = 0 then barY g.1.1 else barX g.1.1
    | .dma s => dPay m g.1.1 (kOf s.val) (gOf s.val)
  amount_pos g _ _ _ := by
    dsimp only
    split
    · exact Nat.one_pos
    · exact NK_pos _

instance barY_storable (c : Dev nD) : BI.Storable (upEmb : UEmb _ 𝕄) (barY (F := F) c) := by unfold barY; infer_instance
instance barX_storable (c : Dev nD) : BI.Storable (upEmb : UEmb _ 𝕄) (barX (F := F) c) := by unfold barX; infer_instance
instance dPay_storable (c : Dev nD) (k g : Fin 4) : BI.Storable (upEmb : UEmb _ 𝕄) (dPay m c k g) := by
  unfold dPay
  (repeat' split) <;> infer_instance

instance sched_payload_storable (g : GSem nD τ sig) (r : ℕ) (d : Fin 2) :
    BI.Storable (upEmb : UEmb _ 𝕄) ((sched m).payload g r d) := by
  obtain ⟨t, sm⟩ := g
  cases sm with
  | reg s => show BI.Storable upEmb (if d = 0 then barY t.1 else barX t.1); split <;> infer_instance
  | dma s => exact dPay_storable m t.1 (kOf s.val) (gOf s.val)

theorem kOf_dS : ∀ k g : Fin 4, kOf (4 + 4 * k.val + g.val) = k := by decide
theorem gOf_dS : ∀ k g : Fin 4, gOf (4 + 4 * k.val + g.val) = g := by decide

section Sched
variable (c : Dev nD) (k g : Fin 4)

theorem duties_bar : (sched m).duties (barCell c) 0 = Finset.univ := by
  dsimp only [sched]; rw [if_pos ⟨rfl, rfl⟩]; exact if_pos rfl
theorem duties_d : (sched m).duties (dCell c k g) 0 = {0} := by
  dsimp only [sched]; rw [if_pos ⟨rfl, rfl⟩]; exact if_pos (by show 4 ≤ 4 + 4 * k.val + g.val; omega)
theorem duties_later (g : GSem nD τ sig) : ∀ r, 1 ≤ r → (sched m).duties g r = ∅ :=
  fun r hr => by dsimp only [sched]; exact if_neg fun h => absurd h.1 (by omega)
theorem amount_bar (d : Fin 2) : (sched m).amount (barCell c) 0 d = 1 := rfl
theorem amount_d (d : Fin 2) : (sched m).amount (dCell c k g) 0 d = NK k := by
  show NK (kOf (4 + 4 * k.val + g.val)) = NK k; rw [kOf_dS]
theorem expect_bar : (sched m).expect (barCell c) 0 = 2 := by
  unfold Schedule.expect Schedule.amountOf; rw [duties_bar]; rfl
theorem expect_d : (sched m).expect (dCell c k g) 0 = NK k := by
  unfold Schedule.expect Schedule.amountOf; rw [duties_d, Finset.sum_singleton, amount_d]
theorem payload_barY : (sched m).payload (barCell c) 0 0 = barY c := rfl
theorem payload_barX : (sched m).payload (barCell c) 0 1 = barX c := rfl
theorem payload_d (d : Fin 2) : (sched m).payload (dCell c k g) 0 d = dPay m c k g := by
  show dPay m c (kOf (4 + 4 * k.val + g.val)) (gOf (4 + 4 * k.val + g.val)) = _; rw [kOf_dS, gOf_dS]
theorem rest_bar : bigSep ((sched m).duties (barCell c) 0 \ ∅) (fun u => (sched m).payload (barCell c) 0 u) = iprop(barY c ∗ barX c) := by
  rw [Finset.sdiff_empty, duties_bar, bigSep_fin_two]; rfl
theorem rest_d : bigSep ((sched m).duties (dCell c k g) 0 \ ∅) (fun u => (sched m).payload (dCell c k g) 0 u) = dPay m c k g := by
  rw [Finset.sdiff_empty, duties_d, bigSep_singleton, payload_d]
theorem close (κ : ℕ) (g : GSem nD τ sig) :
    iprop(cellInv ER (sched m) κ g ∗ atPos ER g (0 + 1) ∅ 0) ⊢ (|={Set.univ}=> semVal g 0 : sProp 𝕄) :=
  Rounds.cell_close ER (sched m) (Set.mem_univ κ) id (duties_later m g)
end Sched

/-! ## Levels, and what a device owes -/

def L (g : GSem nD τ sig) : Finset Unit := if g.1.2 = .tc then {()} else ∅
/-- Staging transfers lowest, then the barrier, the key/value transfers, the result transfers. -/
def lv (g : GSem nD τ sig) (_ : Unit) : ℕ :=
  match g.2 with
  | .reg _ => 1
  | .dma s => if s.val < 4 then 0 else if (kOf s.val).val < 2 then 2 else 3

theorem L_of_ne (g : GSem nD τ sig) (h : g.1.2 ≠ .tc) : L g = ∅ := if_neg h
theorem L_tc (c : Dev nD) (sm : SemLoc sig) : L ((c : Thread nD τ), sm) = {()} := if_pos rfl

/-- The result transfers still to be sent after `n` points. -/
def oweO (c : Dev nD) (n : ℕ) : CellTallies nD τ sig Unit :=
  ∑ g : Fin 4, if n < 2 * g.val + 2 then tallyAt (dCell (xnbr c) 3 g) () N2 else 0
/-- The key/value transfers still to be sent, from pair `n` on. -/
def oweD (c : Dev nD) (n : ℕ) : CellTallies nD τ sig Unit :=
  ∑ g : Fin 4, if n ≤ g.val then tallyAt (dCell (ynbr c) 1 g) () N1 else 0
def O₀ (c : Dev nD) : CellTallies nD τ sig Unit :=
  oweO c 0 + oweD c 0 + tallyAt (barCell (xnbr c)) () 1 + tallyAt (barCell (ynbr c)) () 1

theorem oweO_even (c : Dev nD) (g : Fin 4) : oweO c (2 * g.val) = oweO c (2 * g.val + 1) := by
  unfold oweO
  exact Finset.sum_congr rfl fun g' _ => by
    by_cases h : 2 * g.val < 2 * g'.val + 2
    · rw [if_pos h, if_pos (by omega)]
    · rw [if_neg h, if_neg (by omega)]
theorem oweO_odd (c : Dev nD) (g : Fin 4) : oweO c (2 * g.val + 1) = oweO c (2 * g.val + 2) + tallyAt (dCell (xnbr c) 3 g) () N2 := by
  unfold oweO
  rw [← Finset.add_sum_erase _ _ (Finset.mem_univ g), ← Finset.add_sum_erase (a := g) Finset.univ (fun g' : Fin 4 => if 2 * g.val + 2 < 2 * g'.val + 2 then _ else _) (Finset.mem_univ g),
    if_pos (by omega), if_neg (by omega), zero_add, add_comm]
  congr 1
  exact Finset.sum_congr rfl fun g' hg' => by
    have hne : g'.val ≠ g.val := fun h => (Finset.mem_erase.mp hg').1 (Fin.ext h)
    by_cases h : 2 * g.val + 1 < 2 * g'.val + 2
    · rw [if_pos h, if_pos (by omega)]
    · rw [if_neg h, if_neg (by omega)]
theorem oweO_8 (c : Dev nD) : oweO c 8 = 0 := by
  unfold oweO
  exact Finset.sum_eq_zero fun g _ => if_neg (by omega)
theorem oweD_succ (c : Dev nD) (g : Fin 4) : oweD c g.val = oweD c (g.val + 1) + tallyAt (dCell (ynbr c) 1 g) () N1 := by
  unfold oweD
  rw [← Finset.add_sum_erase _ _ (Finset.mem_univ g), ← Finset.add_sum_erase (a := g) Finset.univ (fun g' : Fin 4 => if g.val + 1 ≤ g'.val then _ else _) (Finset.mem_univ g),
    if_pos le_rfl, if_neg (by omega), zero_add, add_comm]
  congr 1
  exact Finset.sum_congr rfl fun g' hg' => by
    have hne : g'.val ≠ g.val := fun h => (Finset.mem_erase.mp hg').1 (Fin.ext h)
    by_cases h : g.val ≤ g'.val
    · rw [if_pos h, if_pos (by omega)]
    · rw [if_neg h, if_neg (by omega)]
theorem oweD_4 (c : Dev nD) : oweD c 4 = 0 := by
  unfold oweD
  exact Finset.sum_eq_zero fun g _ => if_neg (by omega)

/-- Every tally of `O` is on a cell of level above `n`. -/
def Above (n : ℕ) (O : CellTallies nD τ sig Unit) : Prop := ∀ g u, 0 < O g u → u ∈ L g ∧ n < lv g u

theorem Above.zero (n : ℕ) : Above n 0 := fun _ _ h => absurd h (Nat.lt_irrefl 0)
theorem Above.add {n : ℕ} {O O' : CellTallies nD τ sig Unit} (h : Above n O) (h' : Above n O') : Above n (O + O') := fun g u hu => by
  rw [Pi.add_apply, Finsupp.add_apply] at hu
  rcases Nat.eq_zero_or_pos (O g u) with h0 | h0
  · exact h' g u (by omega)
  · exact h g u h0
theorem Above.sum {n : ℕ} {ι : Type} (s : Finset ι) (f : ι → CellTallies nD τ sig Unit) (h : ∀ i, Above n (f i)) : Above n (∑ i ∈ s, f i) := by
  classical
  induction s using Finset.induction_on with
  | empty => rw [Finset.sum_empty]; exact Above.zero n
  | insert a s ha ih => rw [Finset.sum_insert ha]; exact (h a).add ih
theorem Above.tally {n : ℕ} (c : Dev nD) (sm : SemLoc sig) (k : ℕ) (h : n < lv ((c : Thread nD τ), sm) ()) :
    Above n (tallyAt ((c : Thread nD τ), sm) () k) := fun g u hg => by
  rw [tallyAt_apply] at hg
  by_cases h' : g = ((c : Thread nD τ), sm) ∧ u = ()
  · obtain ⟨rfl, rfl⟩ := h'
    exact ⟨by rw [L_tc]; exact Finset.mem_singleton_self _, h⟩
  · rw [if_neg h'] at hg; exact absurd hg (Nat.lt_irrefl 0)

theorem lv_d : ∀ (c : Dev nD) (k g : Fin 4), lv (dCell c k g) () = if k.val < 2 then 2 else 3 := fun c k g => by
  show (if 4 + 4 * k.val + g.val < 4 then 0 else if (kOf (4 + 4 * k.val + g.val)).val < 2 then 2 else 3) = _
  rw [if_neg (by omega), kOf_dS]

theorem above_oweO (c : Dev nD) (n k : ℕ) (h : k < 3) : Above k (oweO c n) :=
  Above.sum _ _ fun g => by
    split
    · exact Above.tally _ _ _ (by rw [lv_d]; exact h)
    · exact Above.zero _
theorem above_oweD (c : Dev nD) (n k : ℕ) (h : k < 2) : Above k (oweD c n) :=
  Above.sum _ _ fun g => by
    split
    · exact Above.tally _ _ _ (by rw [lv_d]; exact h)
    · exact Above.zero _
theorem above_O₀ (c : Dev nD) : Above 0 (O₀ c) :=
  (((above_oweO c 0 0 (by decide)).add (above_oweD c 0 0 (by decide))).add (Above.tally (xnbr c) (.reg bS) 1 Nat.one_pos)).add (Above.tally (ynbr c) (.reg bS) 1 Nat.one_pos)

theorem mayWait {n : ℕ} {O : CellTallies nD τ sig Unit} (hO : Above n O) (c : Dev nD) (sm : SemLoc sig) (h : lv ((c : Thread nD τ), sm) () ≤ n) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => (hO g u hg).1)
    (fun p hp => by rw [Finset.mem_singleton.mp hp]; exact h)
    (fun g u hg => (hO g u hg).2)

end Cert.Proof.Att

end
-- ==== Proof.Mem.lean ====
module

public import proofs.«01_k».proof.Proof.Protocol
public import Idealize.ShloMosaic.Lib.Pipeline.Value
public import Idealize.ShloMosaic.Lib.Pipeline.ValueKit.Geometry

/-! What the body's loads, stores and transfers do to the buffers' contents. -/

@[expose] public section

namespace Cert.Proof.Att

open Cert.KernelIdeal Cert.KernelIdeal.Gen
open Idealize.ShloMosaic Idealize.ShloMosaic.TcCoe Idealize.ShloMosaic.Pipeline

variable {F : FTy → Type} [FloatOps F]

/-- The place in its own row. -/
def z256 (i : S8x1024x256.Idx) : S1x1024x256.Idx := fun a => match a with | ⟨0, _⟩ => (⟨0, Nat.one_pos⟩ : Fin 1) | ⟨1, _⟩ => i 1 | ⟨2, _⟩ => i 2
def z128 (i : S16x1024x128.Idx) : S1x1024x128.Idx := fun a => match a with | ⟨0, _⟩ => (⟨0, Nat.one_pos⟩ : Fin 1) | ⟨1, _⟩ => i 1 | ⟨2, _⟩ => i 2

/-! ## Rows of the key/value scratch -/

theorem kv_mem (o : Fin 3 → ℕ) (h : ∀ a, o a + S1x1024x256.size a ≤ S8x1024x256.size a) (s : ℕ) (ho : o = ![s, 0, 0]) (i : S8x1024x256.Idx) :
    i ∈ (kvM.access (Rect.unit (s := S8x1024x256) o S1x1024x256.size h)).set ↔ (i 0).val = s := by
  subst ho
  simp only [Memref.access, View.set_slice_whole, Rect.mem_set_unit]
  have h1 : (i 1).val < 1024 := (i 1).isLt
  have h2 : (i 2).val < 256 := (i 2).isLt
  constructor
  · intro h
    have h0 : s ≤ (i 0).val ∧ (i 0).val < s + 1 := h 0
    omega
  · intro h a
    match a with
    | ⟨0, _⟩ => exact (show s ≤ (i 0).val ∧ (i 0).val < s + 1 by omega)
    | ⟨1, _⟩ => exact (show 0 ≤ (i 1).val ∧ (i 1).val < 0 + 1024 by omega)
    | ⟨2, _⟩ => exact (show 0 ≤ (i 2).val ∧ (i 2).val < 0 + 256 by omega)

theorem kvo_mem (o : Fin 3 → ℕ) (h : ∀ a, o a + S1x1024x256.size a ≤ S8x1024x256.size a) (s : ℕ) (ho : o = ![s, 0, 0]) (i : S8x1024x256.Idx) :
    i ∈ (kvoM.access (Rect.unit (s := S8x1024x256) o S1x1024x256.size h)).set ↔ (i 0).val = s := by
  rw [← kv_mem o h s ho i]; simp only [Memref.access, View.set_slice_whole]

theorem o_mem (o : Fin 3 → ℕ) (h : ∀ a, o a + S1x1024x128.size a ≤ S16x1024x128.size a) (s : ℕ) (ho : o = ![s, 0, 0]) (i : S16x1024x128.Idx) :
    i ∈ (oM.access (Rect.unit (s := S16x1024x128) o S1x1024x128.size h)).set ↔ (i 0).val = s := by
  subst ho
  simp only [Memref.access, View.set_slice_whole, Rect.mem_set_unit]
  have h1 : (i 1).val < 1024 := (i 1).isLt
  have h2 : (i 2).val < 128 := (i 2).isLt
  constructor
  · intro h
    have h0 : s ≤ (i 0).val ∧ (i 0).val < s + 1 := h 0
    omega
  · intro h a
    match a with
    | ⟨0, _⟩ => exact (show s ≤ (i 0).val ∧ (i 0).val < s + 1 by omega)
    | ⟨1, _⟩ => exact (show 0 ≤ (i 1).val ∧ (i 1).val < 0 + 1024 by omega)
    | ⟨2, _⟩ => exact (show 0 ≤ (i 2).val ∧ (i 2).val < 0 + 128 by omega)

theorem kv_row_sub (o : Fin 3 → ℕ) (h : ∀ a, o a + S1x1024x256.size a ≤ S8x1024x256.size a) (s g : ℕ) (ho : o = ![s, 0, 0]) (hg : s / 2 = g) :
    (kvM.access (Rect.unit (s := S8x1024x256) o S1x1024x256.size h)).set ⊆ kset g := fun i hi => by
  have := (kv_mem o h s ho i).mp hi
  exact Finset.mem_filter.mpr ⟨Finset.mem_univ _, by omega⟩
theorem kvo_row_sub (o : Fin 3 → ℕ) (h : ∀ a, o a + S1x1024x256.size a ≤ S8x1024x256.size a) (s g : ℕ) (ho : o = ![s, 0, 0]) (hg : s / 2 = g) :
    (kvoM.access (Rect.unit (s := S8x1024x256) o S1x1024x256.size h)).set ⊆ kset g := fun i hi => by
  have := (kvo_mem o h s ho i).mp hi
  exact Finset.mem_filter.mpr ⟨Finset.mem_univ _, by omega⟩
theorem o_row_sub (o : Fin 3 → ℕ) (h : ∀ a, o a + S1x1024x128.size a ≤ S16x1024x128.size a) (s g : ℕ) (ho : o = ![s, 0, 0]) (hg : s / 2 = g) :
    (oM.access (Rect.unit (s := S16x1024x128) o S1x1024x128.size h)).set ⊆ oset g := fun i hi => by
  have := (o_mem o h s ho i).mp hi
  exact Finset.mem_filter.mpr ⟨Finset.mem_univ _, by omega⟩

/-- Loading a row of the key/value scratch. -/
theorem kv_read (o : Fin 3 → ℕ) (h : ∀ a, o a + S1x1024x256.size a ≤ S8x1024x256.size a) (s : Fin 8) (ho : o = ![s.val, 0, 0]) (f : S8x1024x256.Idx → Elt F .bf16) :
    (kvM.access (Rect.unit (s := S8x1024x256) o S1x1024x256.size h)).read (Elt F) f = rowK f s := by
  subst ho
  funext j
  refine congrArg f (funext fun a => Fin.ext ?_)
  refine (ValueKit.rect_emb_unit_val (s := S8x1024x256) _ _ h j a).trans ?_
  have h0 : (j 0).val < 1 := (j 0).isLt
  match a with
  | ⟨0, _⟩ => exact (show s.val + (j 0).val = s.val by omega)
  | ⟨1, _⟩ => exact Nat.zero_add _
  | ⟨2, _⟩ => exact Nat.zero_add _
theorem kvo_read (o : Fin 3 → ℕ) (h : ∀ a, o a + S1x1024x256.size a ≤ S8x1024x256.size a) (s : Fin 8) (ho : o = ![s.val, 0, 0]) (f : S8x1024x256.Idx → Elt F .bf16) :
    (kvoM.access (Rect.unit (s := S8x1024x256) o S1x1024x256.size h)).read (Elt F) f = rowK f s := kv_read o h s ho f

/-- Storing a row of the key/value scratch: that row, and nothing else. -/
theorem kv_write (o : Fin 3 → ℕ) (h : ∀ a, o a + S1x1024x256.size a ≤ S8x1024x256.size a) (s : ℕ) (ho : o = ![s, 0, 0])
    (f : S8x1024x256.Idx → Elt F .bf16) (w : S1x1024x256.Idx → Elt F .bf16) (i : S8x1024x256.Idx) :
    (kvM.access (Rect.unit (s := S8x1024x256) o S1x1024x256.size h)).write (Elt F) f w Finset.univ i
      = if (i 0).val = s then w (z256 i) else f i := by
  split
  · next hi =>
    have e : i = (kvM.access (Rect.unit (s := S8x1024x256) o S1x1024x256.size h)).emb (z256 i) := by
      subst ho
      funext a
      refine Fin.ext (Eq.trans ?_ (ValueKit.rect_emb_unit_val (s := S8x1024x256) _ _ h _ a).symm)
      match a with
      | ⟨0, _⟩ => exact (show (i 0).val = s + 0 by omega)
      | ⟨1, _⟩ => exact (Nat.zero_add _).symm
      | ⟨2, _⟩ => exact (Nat.zero_add _).symm
    have key : ∀ x : S1x1024x256.Idx, (kvM.access (Rect.unit (s := S8x1024x256) o S1x1024x256.size h)).write (Elt F) f w Finset.univ
        ((kvM.access (Rect.unit (s := S8x1024x256) o S1x1024x256.size h)).emb x) = w x := fun x => by
      rw [View.write_emb, if_pos (Finset.mem_univ x)]; rfl
    calc _ = _ := congrArg ((kvM.access (Rect.unit (s := S8x1024x256) o S1x1024x256.size h)).write (Elt F) f w Finset.univ) e
      _ = _ := key (z256 i)
  · next hi =>
    exact View.write_of_not_mem _ _ _ fun hm => hi ((kv_mem o h s ho i).mp hm)

theorem o_write (o : Fin 3 → ℕ) (h : ∀ a, o a + S1x1024x128.size a ≤ S16x1024x128.size a) (s : ℕ) (ho : o = ![s, 0, 0])
    (f : S16x1024x128.Idx → Elt F .bf16) (w : S1x1024x128.Idx → Elt F .bf16) (i : S16x1024x128.Idx) :
    (oM.access (Rect.unit (s := S16x1024x128) o S1x1024x128.size h)).write (Elt F) f w Finset.univ i
      = if (i 0).val = s then w (z128 i) else f i := by
  split
  · next hi =>
    have e : i = (oM.access (Rect.unit (s := S16x1024x128) o S1x1024x128.size h)).emb (z128 i) := by
      subst ho
      funext a
      refine Fin.ext (Eq.trans ?_ (ValueKit.rect_emb_unit_val (s := S16x1024x128) _ _ h _ a).symm)
      match a with
      | ⟨0, _⟩ => exact (show (i 0).val = s + 0 by omega)
      | ⟨1, _⟩ => exact (Nat.zero_add _).symm
      | ⟨2, _⟩ => exact (Nat.zero_add _).symm
    have key : ∀ x : S1x1024x128.Idx, (oM.access (Rect.unit (s := S16x1024x128) o S1x1024x128.size h)).write (Elt F) f w Finset.univ
        ((oM.access (Rect.unit (s := S16x1024x128) o S1x1024x128.size h)).emb x) = w x := fun x => by
      rw [View.write_emb, if_pos (Finset.mem_univ x)]; rfl
    calc _ = _ := congrArg ((oM.access (Rect.unit (s := S16x1024x128) o S1x1024x128.size h)).write (Elt F) f w Finset.univ) e
      _ = _ := key (z128 i)
  · next hi =>
    exact View.write_of_not_mem _ _ _ fun hm => hi ((o_mem o h s ho i).mp hm)

/-- A transfer of a pair of rows: the destination's pair reads the source's. -/
theorem kv_copied (o : Fin 3 → ℕ) (h : ∀ a, o a + S2x1024x256.size a ≤ S8x1024x256.size a) (n : ℕ) (ho : o = ![2 * n, 0, 0])
    (fd fs : S8x1024x256.Idx → Elt F .bf16) (i : S8x1024x256.Idx) (hi : i ∈ kset n) :
    (kvoM.slice (Rect.unit (s := S8x1024x256) o S2x1024x256.size h) (fun _ => rfl)).view.write (Elt F) fd
      ((kvM.slice (Rect.unit (s := S8x1024x256) o S2x1024x256.size h) (fun _ => rfl)).view.read (Elt F) fs) Finset.univ i = fs i := by
  rw [← set_kvo o h n ho] at hi
  obtain ⟨x, -, rfl⟩ := Finset.mem_map.mp hi
  exact (View.write_emb_of_mem _ _ (Finset.mem_univ _)).trans (cast_eq _ _)
theorem o_copied (o : Fin 3 → ℕ) (h : ∀ a, o a + S2x1024x128.size a ≤ S16x1024x128.size a) (n : ℕ) (ho : o = ![2 * n, 0, 0])
    (fd fs : S16x1024x128.Idx → Elt F .bf16) (i : S16x1024x128.Idx) (hi : i ∈ oset n) :
    (oM.slice (Rect.unit (s := S16x1024x128) o S2x1024x128.size h) (fun _ => rfl)).view.write (Elt F) fd
      ((oM.slice (Rect.unit (s := S16x1024x128) o S2x1024x128.size h) (fun _ => rfl)).view.read (Elt F) fs) Finset.univ i = fs i := by
  rw [← set_o o h n ho] at hi
  obtain ⟨x, -, rfl⟩ := Finset.mem_map.mp hi
  exact (View.write_emb_of_mem _ _ (Finset.mem_univ _)).trans (cast_eq _ _)

/-! ## The per-head transposition -/

/-- One head of the staged window, as the row of the scratch it is stored into. -/
def rowS {X : Type} (f : S1024x8x256.Idx → X) (s : Fin 8) : S1024x1x256.Idx → X :=
  fun j => f (fun a => match a with | ⟨0, _⟩ => j 0 | ⟨1, _⟩ => s | ⟨2, _⟩ => j 2)

theorem s_read (o : Fin 3 → ℕ) (h : ∀ a, o a + S1024x1x256.size a ≤ S1024x8x256.size a) (s : Fin 8) (ho : o = ![0, s.val, 0]) (f : S1024x8x256.Idx → Elt F .bf16) :
    (sM.access (Rect.unit (s := S1024x8x256) o S1024x1x256.size h)).read (Elt F) f = rowS f s := by
  subst ho
  funext j
  refine congrArg f (funext fun a => Fin.ext ?_)
  refine (ValueKit.rect_emb_unit_val (s := S1024x8x256) _ _ h j a).trans ?_
  have h0 : (j 1).val < 1 := (j 1).isLt
  match a with
  | ⟨0, _⟩ => exact Nat.zero_add _
  | ⟨1, _⟩ => exact (show s.val + (j 1).val = s.val by omega)
  | ⟨2, _⟩ => exact Nat.zero_add _

theorem cast_row {X : Type} (v : S1024x1x256.Idx → X) (h : S1024x1x256.ShapeCasts S1024x256) (h' : S1024x256.ShapeCasts S1x1024x256) (j : S1x1024x256.Idx) :
    shapeCast S1x1024x256 (shapeCast S1024x256 v h) h' j = v (fun a => match a with | ⟨0, _⟩ => j 1 | ⟨1, _⟩ => (⟨0, Nat.one_pos⟩ : Fin 1) | ⟨2, _⟩ => j 2) := by
  have h0 : (j 0).val < 1 := (j 0).isLt
  rw [shapeCast_apply _ h' j (fun a => match a with | ⟨0, _⟩ => j 1 | ⟨1, _⟩ => j 2)
    (by rw [Shape.rowMajor_val_two, Shape.rowMajor_val_three]; show (j 1).val * 256 + (j 2).val = ((j 0).val * 1024 + (j 1).val) * 256 + (j 2).val; omega)]
  exact shapeCast_apply _ h _ _
    (by rw [Shape.rowMajor_val_three, Shape.rowMajor_val_two]; show ((j 1).val * 1 + 0) * 256 + (j 2).val = (j 1).val * 256 + (j 2).val; omega)

/-- What is stored at row `s`. -/
theorem row_kvT {X : Type} (f : S1024x8x256.Idx → X) (h : S1024x1x256.ShapeCasts S1024x256) (h' : S1024x256.ShapeCasts S1x1024x256) (s : Fin 8) :
    shapeCast S1x1024x256 (shapeCast S1024x256 (rowS f s) h) h' = rowK (kvT f) s := by
  funext j; rw [cast_row]; rfl

/-- Both rows of a pair hold. -/
def AgK (G f : S8x1024x256.Idx → Elt F .bf16) (s : ℕ) : Prop := ∀ i, (i 0).val = s → f i = G i
theorem AgK.write (G f : S8x1024x256.Idx → Elt F .bf16) (o : Fin 3 → ℕ) (h : ∀ a, o a + S1x1024x256.size a ≤ S8x1024x256.size a) (s : Fin 8) (ho : o = ![s.val, 0, 0]) :
    AgK G ((kvM.access (Rect.unit (s := S8x1024x256) o S1x1024x256.size h)).write (Elt F) f (rowK G s) Finset.univ) s.val := fun i hi => by
  rw [kv_write o h s.val ho, if_pos hi]
  refine congrArg G (funext fun a => ?_)
  match a with
  | ⟨0, _⟩ => exact Fin.ext hi.symm
  | ⟨1, _⟩ => rfl
  | ⟨2, _⟩ => rfl
theorem AgK.keep {G f : S8x1024x256.Idx → Elt F .bf16} {s : ℕ} (hf : AgK G f s) (w : S1x1024x256.Idx → Elt F .bf16) (o : Fin 3 → ℕ) (h : ∀ a, o a + S1x1024x256.size a ≤ S8x1024x256.size a) (s' : ℕ) (ho : o = ![s', 0, 0])
    (hs : s ≠ s') : AgK G ((kvM.access (Rect.unit (s := S8x1024x256) o S1x1024x256.size h)).write (Elt F) f w Finset.univ) s := fun i hi => by
  rw [kv_write o h s' ho, if_neg (by omega)]; exact hf i hi
theorem AgK.pair {G f : S8x1024x256.Idx → Elt F .bf16} {n : ℕ} (h0 : AgK G f (2 * n)) (h1 : AgK G f (2 * n + 1)) : ∀ i ∈ kset n, f i = G i := fun i hi => by
  have : (i 0).val / 2 = n := (Finset.mem_filter.mp hi).2
  rcases Nat.mod_two_eq_zero_or_one (i 0).val with h | h
  · exact h0 i (by omega)
  · exact h1 i (by omega)

def AgO (G f : S16x1024x128.Idx → Elt F .bf16) (s : ℕ) : Prop := ∀ i, (i 0).val = s → f i = G i
theorem AgO.write (G f : S16x1024x128.Idx → Elt F .bf16) (w : S1x1024x128.Idx → Elt F .bf16) (o : Fin 3 → ℕ) (h : ∀ a, o a + S1x1024x128.size a ≤ S16x1024x128.size a) (s : ℕ) (ho : o = ![s, 0, 0])
    (hw : ∀ i : S16x1024x128.Idx, (i 0).val = s → G i = w (z128 i)) :
    AgO G ((oM.access (Rect.unit (s := S16x1024x128) o S1x1024x128.size h)).write (Elt F) f w Finset.univ) s := fun i hi => by
  rw [o_write o h s ho, if_pos hi, hw i hi]
theorem AgO.keep {G f : S16x1024x128.Idx → Elt F .bf16} {s : ℕ} (hf : AgO G f s) (w : S1x1024x128.Idx → Elt F .bf16) (o : Fin 3 → ℕ) (h : ∀ a, o a + S1x1024x128.size a ≤ S16x1024x128.size a) (s' : ℕ) (ho : o = ![s', 0, 0])
    (hs : s ≠ s') : AgO G ((oM.access (Rect.unit (s := S16x1024x128) o S1x1024x128.size h)).write (Elt F) f w Finset.univ) s := fun i hi => by
  rw [o_write o h s' ho, if_neg (by omega)]; exact hf i hi
theorem AgO.pair {G f : S16x1024x128.Idx → Elt F .bf16} {n : ℕ} (h0 : AgO G f (2 * n)) (h1 : AgO G f (2 * n + 1)) : ∀ i ∈ oset n, f i = G i := fun i hi => by
  have : (i 0).val / 2 = n := (Finset.mem_filter.mp hi).2
  rcases Nat.mod_two_eq_zero_or_one (i 0).val with h | h
  · exact h0 i (by omega)
  · exact h1 i (by omega)

variable (m : (ℓ : Loc nD τ sig) → Buf (Elt F) ℓ)

/-- Row `8 (c / 2) + s` of the result is head `s` of the own half. -/
theorem OUT_own (c : Dev nD) (s : Fin 8) (i : S16x1024x128.Idx) (hi : (i 0).val = 8 * (c.val / 2) + s.val) :
    OUT m c i = RES m c s (z128 i) := by
  unfold OUT own
  rw [if_pos (by omega)]
  congr 1
  exact Fin.ext (by show (i 0).val % 8 = s.val; omega)

end Cert.Proof.Att

end
-- ==== Proof.Ops.lean ====
module

public import proofs.«01_k».proof.Proof.Mem

/-! The operations of the kernel's body, each against the protocol, at any pair of heads. -/

@[expose] public section

noncomputable section

namespace Cert.Proof.Att

open Cert.KernelIdeal Cert.KernelIdeal.Gen
open Idealize.ShloMosaic Idealize.ShloMosaic.TcCoe Idealize.ShloMosaic.Rounds Idealize.ShloMosaic.Pipeline
open Idealize.SL Idealize.SL.RA Idealize.SL.BI
open scoped Idealize.SL.BI
open Idealize.SL.BI.BIBase Idealize.SL.BI.Laws Idealize.SL.Sem Idealize.SL.ProofMode

variable {F : FTy → Type} [FloatOps F]

local notation "𝕄" => MT nD τ sig Unit (Elt F) ℕ UU ℕ

abbrev 𝒱₀ : Variants := Variants.none

abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (m : (ℓ : Loc nD τ sig) → Buf (Elt F) ℓ)

/-! ## What every device may use at any time -/

/-- The protocol's cells of a device: the barrier and the sixteen transfer semaphores. -/
abbrev CellIx : Type := Dev nD × Option (Fin 4 × Fin 4)
def cellAt (p : CellIx) : GSem nD τ sig := match p.2 with | none => barCell p.1 | some (k, g) => dCell p.1 k g

def invs (K : CellIx → ℕ) : sProp 𝕄 := bigSep Finset.univ fun p : CellIx => cellInv ER (sched m) (K p) (cellAt p)
instance invs_persistent (K : CellIx → ℕ) : BI.Persistent (invs m K) := by unfold invs; infer_instance

theorem inv_bar (K : CellIx → ℕ) (c : Dev nD) : invs m K ⊢ cellInv ER (sched m) (K (c, none)) (barCell c) :=
  bigSep_elim (i := ((c, none) : CellIx)) (Finset.mem_univ _)
theorem inv_d (K : CellIx → ℕ) (c : Dev nD) (k g : Fin 4) : invs m K ⊢ cellInv ER (sched m) (K (c, some (k, g))) (dCell c k g) :=
  bigSep_elim (i := ((c, some (k, g)) : CellIx)) (Finset.mem_univ _)

/-- The invariants, the levels, and that the own transfer cells are open. -/
def ctx (K : CellIx → ℕ) (c : Dev nD) : sProp 𝕄 :=
  iprop(invs m K ∗ levAts L lv ∗ bigSep Finset.univ fun p : Fin 4 × Fin 4 => reached ER (dCell c p.1 p.2) 0)
instance ctx_persistent (K : CellIx → ℕ) (c : Dev nD) : BI.Persistent (ctx m K c) := by unfold ctx; infer_instance

theorem ctx_inv (K : CellIx → ℕ) (c : Dev nD) : ctx m K c ⊢ invs m K := by unfold ctx; iintro ⟨H, -, -⟩; iexact H
theorem ctx_lev (K : CellIx → ℕ) (c : Dev nD) : ctx m K c ⊢ levAts L lv := by unfold ctx; iintro ⟨-, H, -⟩; iexact H
theorem ctx_reached (K : CellIx → ℕ) (c : Dev nD) (k g : Fin 4) : ctx m K c ⊢ reached ER (dCell c k g) 0 := by
  unfold ctx; iintro ⟨-, -, H⟩
  iapply (show (bigSep Finset.univ fun p : Fin 4 × Fin 4 => (reached ER (dCell c p.1 p.2) 0 : sProp 𝕄)) ⊢ reached ER (dCell c k g) 0 from
    bigSep_elim (i := ((k, g) : Fin 4 × Fin 4)) (Finset.mem_univ _))
  iexact H

/-! ## Local loads and stores -/

abbrev sPts (c : Dev nD) : sProp 𝕄 := sM.view.loc (c : Thread nD τ) ↦[Finset.univ]{fullShare} SA m c

theorem op_load_s {α : Type} {Q : α → sProp 𝕄} (c : Dev nD) (o : Fin 3 → ℕ) (h : ∀ a, o a + S1024x1x256.size a ≤ S1024x8x256.size a) {hl} (s : Fin 8) (ho : o = ![0, s.val, 0])
    {k : (S1024x1x256.Idx → Elt F .bf16) → Prog (TpuEff nD τ sig (Elt F) Λ₀ .tc) α} :
    sPts m c ⊢ iprop((sPts m c -∗ WP c (k (rowS (SA m c) s)) Q)
      -∗ WP c (.op (.load sM (Rect.unit (s := S1024x8x256) o S1024x1x256.size h).toLoadRect hl) k) Q) := by
  have := wp_load_rect (defs := defs₀ (F := F)) (Γ := .empty) (Q := Q) 𝒱₀ (c : Thread nD τ) none Set.univ (m := sM) (r := Rect.unit (s := S1024x8x256) o S1024x1x256.size h) (hl := hl) (k := k) (S := Finset.univ) (q := fullShare) (f := SA m c) (Finset.subset_univ _)
  rw [s_read o h s ho (SA m c)] at this
  exact this

/-- Loading a row of the own keys and values. -/
theorem op_load_kv {α : Type} {Q : α → sProp 𝕄} (c : Dev nD) (o : Fin 3 → ℕ) (h : ∀ a, o a + S1x1024x256.size a ≤ S8x1024x256.size a) {hl} (s : Fin 8) (ho : o = ![s.val, 0, 0])
    (g : ℕ) (hg : s.val / 2 = g) (f : S8x1024x256.Idx → Elt F .bf16)
    {k : (S1x1024x256.Idx → Elt F .bf16) → Prog (TpuEff nD τ sig (Elt F) Λ₀ .tc) α} :
    kvP c g f ⊢ iprop((kvP c g f -∗ WP c (k (rowK f s)) Q)
      -∗ WP c (.op (.load kvM (Rect.unit (s := S8x1024x256) o S1x1024x256.size h).toLoadRect hl) k) Q) := by
  have := wp_load_rect (defs := defs₀ (F := F)) (Γ := .empty) (Q := Q) 𝒱₀ (c : Thread nD τ) none Set.univ (m := kvM) (r := Rect.unit (s := S8x1024x256) o S1x1024x256.size h) (hl := hl) (k := k) (S := kset g) (q := fullShare) (f := f) (kv_row_sub o h s.val g ho hg)
  rw [kv_read o h s ho f] at this
  exact this

theorem op_load_kvo {α : Type} {Q : α → sProp 𝕄} (c : Dev nD) (o : Fin 3 → ℕ) (h : ∀ a, o a + S1x1024x256.size a ≤ S8x1024x256.size a) {hl} (s : Fin 8) (ho : o = ![s.val, 0, 0])
    (g : ℕ) (hg : s.val / 2 = g) (f : S8x1024x256.Idx → Elt F .bf16)
    {k : (S1x1024x256.Idx → Elt F .bf16) → Prog (TpuEff nD τ sig (Elt F) Λ₀ .tc) α} :
    kvoP c g f ⊢ iprop((kvoP c g f -∗ WP c (k (rowK f s)) Q)
      -∗ WP c (.op (.load kvoM (Rect.unit (s := S8x1024x256) o S1x1024x256.size h).toLoadRect hl) k) Q) := by
  have := wp_load_rect (defs := defs₀ (F := F)) (Γ := .empty) (Q := Q) 𝒱₀ (c : Thread nD τ) none Set.univ (m := kvoM) (r := Rect.unit (s := S8x1024x256) o S1x1024x256.size h) (hl := hl) (k := k) (S := kset g) (q := fullShare) (f := f) (kvo_row_sub o h s.val g ho hg)
  rw [kvo_read o h s ho f] at this
  exact this

/-- A load of the result's staging buffer whose value is not used. -/
theorem op_load_o {α : Type} {Q : α → sProp 𝕄} (c : Dev nD) (o : Fin 3 → ℕ) (h : ∀ a, o a + S1x1024x128.size a ≤ S16x1024x128.size a) {hl} (s : ℕ) (ho : o = ![s, 0, 0])
    (g : ℕ) (hg : s / 2 = g) (f : S16x1024x128.Idx → Elt F .bf16)
    {k : (S1x1024x128.Idx → Elt F .bf16) → Prog (TpuEff nD τ sig (Elt F) Λ₀ .tc) α} :
    oP c g f ⊢ iprop((∀ v, oP c g f -∗ WP c (k v) Q)
      -∗ WP c (.op (.load oM (Rect.unit (s := S16x1024x128) o S1x1024x128.size h).toLoadRect hl) k) Q) := by
  iintro H Hk
  iapply (wp_load_rect (defs := defs₀ (F := F)) (Γ := .empty) (Q := Q) 𝒱₀ (c : Thread nD τ) none Set.univ (m := oM) (r := Rect.unit (s := S16x1024x128) o S1x1024x128.size h) (hl := hl) (k := k) (S := oset g) (q := fullShare) (f := f) (o_row_sub o h s g ho hg)) $$ H
  iintro H
  iapply Hk $$ H

/-- Storing a row of the own keys and values. -/
theorem op_store_kv {α : Type} {Q : α → sProp 𝕄} (c : Dev nD) (o : Fin 3 → ℕ) (h : ∀ a, o a + S1x1024x256.size a ≤ S8x1024x256.size a) {hx hm} (s : Fin 8) (ho : o = ![s.val, 0, 0])
    (g : ℕ) (hg : s.val / 2 = g) (f : S8x1024x256.Idx → Elt F .bf16) (w : S1x1024x256.Idx → Elt F .bf16) (hw : w = rowK (KV m c) s)
    {k : PUnit → Prog (TpuEff nD τ sig (Elt F) Λ₀ .tc) α} :
    kvP c g f ⊢ iprop((∀ f', ⌜AgK (KV m c) f' s.val ∧ ∀ s', s' ≠ s.val → AgK (KV m c) f s' → AgK (KV m c) f' s'⌝ -∗ kvP c g f' -∗ WP c (k ⟨⟩) Q)
      -∗ WP c (.op (.store kvM (Rect.unit (s := S8x1024x256) o S1x1024x256.size h) w Finset.univ hx hm) k) Q) := by
  iintro H Hk
  iapply (wp_store (defs := defs₀ (F := F)) (Γ := .empty) (Q := Q) 𝒱₀ (c : Thread nD τ) none Set.univ (m := kvM) (r := Rect.unit (s := S8x1024x256) o S1x1024x256.size h) (w := w) (Mk := Finset.univ) (hx := hx) (hm := hm) (k := k) (S := kset g) (f := f) (kv_row_sub o h s.val g ho hg)) $$ H
  iintro H
  ispecialize Hk $$ %((kvM.access (Rect.unit (s := S8x1024x256) o S1x1024x256.size h)).write (Elt F) f w Finset.univ)
  iapply Hk $$ [] H
  ipureintro
  subst hw
  exact ⟨AgK.write _ f o h s ho, fun s' hs hf => AgK.keep hf _ o h s.val ho hs⟩

/-- Storing a finished row of the result. -/
theorem op_store_o {α : Type} {Q : α → sProp 𝕄} (c : Dev nD) (o : Fin 3 → ℕ) (h : ∀ a, o a + S1x1024x128.size a ≤ S16x1024x128.size a) {hx hm} (s : Fin 8) (ho : o = ![8 * (c.val / 2) + s.val, 0, 0])
    (g : ℕ) (hg : (8 * (c.val / 2) + s.val) / 2 = g) (f : S16x1024x128.Idx → Elt F .bf16) (w : S1x1024x128.Idx → Elt F .bf16) (hw : w = RES m c s)
    {k : PUnit → Prog (TpuEff nD τ sig (Elt F) Λ₀ .tc) α} :
    oP c g f ⊢ iprop((∀ f', ⌜AgO (OUT m c) f' (8 * (c.val / 2) + s.val) ∧ ∀ s', s' ≠ 8 * (c.val / 2) + s.val → AgO (OUT m c) f s' → AgO (OUT m c) f' s'⌝ -∗ oP c g f' -∗ WP c (k ⟨⟩) Q)
      -∗ WP c (.op (.store oM (Rect.unit (s := S16x1024x128) o S1x1024x128.size h) w Finset.univ hx hm) k) Q) := by
  iintro H Hk
  iapply (wp_store (defs := defs₀ (F := F)) (Γ := .empty) (Q := Q) 𝒱₀ (c : Thread nD τ) none Set.univ (m := oM) (r := Rect.unit (s := S16x1024x128) o S1x1024x128.size h) (w := w) (Mk := Finset.univ) (hx := hx) (hm := hm) (k := k) (S := oset g) (f := f) (o_row_sub o h _ g ho hg)) $$ H
  iintro H
  ispecialize Hk $$ %((oM.access (Rect.unit (s := S16x1024x128) o S1x1024x128.size h)).write (Elt F) f w Finset.univ)
  iapply Hk $$ [] H
  ipureintro
  subst hw
  exact ⟨AgO.write _ f _ o h _ ho fun i hi => OUT_own m c s i hi, fun s' hs hf => AgO.keep hf _ o h _ ho hs⟩

/-! ## Transfers -/

theorem kv_src (c : Dev nD) (o : Fin 3 → ℕ) (h : ∀ a, o a + S2x1024x256.size a ≤ S8x1024x256.size a) (n : ℕ) (ho : o = ![2 * n, 0, 0]) (f : S8x1024x256.Idx → Elt F .bf16) :
    ((kvM.slice (Rect.unit (s := S8x1024x256) o S2x1024x256.size h) (fun _ => rfl)).view.loc (c : Thread nD τ) ↦[(kvM.slice (Rect.unit (s := S8x1024x256) o S2x1024x256.size h) (fun _ => rfl)).view.set]{fullShare} f : sProp 𝕄) = kvP c n f := by
  rw [set_kv o h n ho]
theorem kvo_src (c : Dev nD) (o : Fin 3 → ℕ) (h : ∀ a, o a + S2x1024x256.size a ≤ S8x1024x256.size a) (n : ℕ) (ho : o = ![2 * n, 0, 0]) (f : S8x1024x256.Idx → Elt F .bf16) :
    ((kvoM.slice (Rect.unit (s := S8x1024x256) o S2x1024x256.size h) (fun _ => rfl)).view.loc (c : Thread nD τ) ↦[(kvoM.slice (Rect.unit (s := S8x1024x256) o S2x1024x256.size h) (fun _ => rfl)).view.set]{fullShare} f : sProp 𝕄) = kvoP c n f := by
  rw [set_kvo o h n ho]
theorem o_src (c : Dev nD) (o : Fin 3 → ℕ) (h : ∀ a, o a + S2x1024x128.size a ≤ S16x1024x128.size a) (n : ℕ) (ho : o = ![2 * n, 0, 0]) (f : S16x1024x128.Idx → Elt F .bf16) :
    ((oM.slice (Rect.unit (s := S16x1024x128) o S2x1024x128.size h) (fun _ => rfl)).view.loc (c : Thread nD τ) ↦[(oM.slice (Rect.unit (s := S16x1024x128) o S2x1024x128.size h) (fun _ => rfl)).view.set]{fullShare} f : sProp 𝕄) = oP c n f := by
  rw [set_o o h n ho]
theorem kv_dst (c : Dev nD) (o : Fin 3 → ℕ) (h : ∀ a, o a + S2x1024x256.size a ≤ S8x1024x256.size a) (n : ℕ) (ho : o = ![2 * n, 0, 0]) (fd fs : S8x1024x256.Idx → Elt F .bf16) :
    ((kvoM.slice (Rect.unit (s := S8x1024x256) o S2x1024x256.size h) (fun _ => rfl)).view.loc (c : Thread nD τ) ↦[(kvoM.slice (Rect.unit (s := S8x1024x256) o S2x1024x256.size h) (fun _ => rfl)).view.set]{fullShare} ((kvoM.slice (Rect.unit (s := S8x1024x256) o S2x1024x256.size h) (fun _ => rfl)).view.write (Elt F) fd ((kvM.slice (Rect.unit (s := S8x1024x256) o S2x1024x256.size h) (fun _ => rfl)).view.read (Elt F) fs) Finset.univ) : sProp 𝕄) = kvoP c n fs := by
  rw [kvo_src c o h n ho]; exact pointsTo_congr (kv_copied o h n ho fd fs)
theorem o_dst (c : Dev nD) (o : Fin 3 → ℕ) (h : ∀ a, o a + S2x1024x128.size a ≤ S16x1024x128.size a) (n : ℕ) (ho : o = ![2 * n, 0, 0]) (fd fs : S16x1024x128.Idx → Elt F .bf16) :
    ((oM.slice (Rect.unit (s := S16x1024x128) o S2x1024x128.size h) (fun _ => rfl)).view.loc (c : Thread nD τ) ↦[(oM.slice (Rect.unit (s := S16x1024x128) o S2x1024x128.size h) (fun _ => rfl)).view.set]{fullShare} ((oM.slice (Rect.unit (s := S16x1024x128) o S2x1024x128.size h) (fun _ => rfl)).view.write (Elt F) fd ((oM.slice (Rect.unit (s := S16x1024x128) o S2x1024x128.size h) (fun _ => rfl)).view.read (Elt F) fs) Finset.univ) : sProp 𝕄) = oP c n fs := by
  rw [o_src c o h n ho]; exact pointsTo_congr (o_copied o h n ho fd fs)

theorem dPay_0 (c : Dev nD) (g : Fin 4) : dPay m c 0 g = kvP c g.val (KV m c) := rfl
theorem dPay_1 (c : Dev nD) (g : Fin 4) : dPay m c 1 g = kvoP c g.val (KV m (ynbr c)) := rfl
theorem dPay_2 (c : Dev nD) (g : Fin 4) : dPay m c 2 g = oP c (og c g) (OUT m c) := rfl
theorem dPay_3 (c : Dev nD) (g : Fin 4) : dPay m c 3 g = oP c (og (xnbr c) g) (OUT m c) := rfl

/-- Sending a pair of heads' keys and values to the partner along y. -/
theorem op_send_kv {α : Type} {Q : α → sProp 𝕄} (K : CellIx → ℕ) (c : Dev nD) (g : Fin 4) (o : Fin 3 → ℕ) (h : ∀ a, o a + S2x1024x256.size a ≤ S8x1024x256.size a) (ho : o = ![2 * g.val, 0, 0])
    (d : Dev nD) (hd : d = ynbr c) (sS sR : DmaSem sig) (hS : sS = dS 0 g) (hR : sR = dS 1 g) {hsrc hdst hsem}
    (fd : S8x1024x256.Idx → Elt F .bf16) (O : CellTallies nD τ sig Unit) (W : Waits sig Unit)
    {k : PUnit → Prog (TpuEff nD τ sig (Elt F) Λ₀ .tc) α} :
    iprop(ctx m K c ∗ kvP c g.val (KV m c) ∗ kvoP (ynbr c) g.val fd ∗ reached ER (dCell (ynbr c) 1 g) 0
        ∗ dutyTok ER (dCell c 0 g) 0 0 ∗ dutyTok ER (dCell (ynbr c) 1 g) 0 0 ∗ owes (c : Thread nD τ) (O + tallyAt (dCell (ynbr c) 1 g) () N1) W)
      ⊢ iprop((cred (tallyAt (dCell c 0 g) () N1) -∗ owes (c : Thread nD τ) O W -∗ WP c (k ⟨⟩) Q)
      -∗ WP c (.op (.enqueueDma (kvM.slice (Rect.unit (s := S8x1024x256) o S2x1024x256.size h) (fun _ => rfl))
          (.remote (Dev.tc d) (kvoM.slice (Rect.unit (s := S8x1024x256) o S2x1024x256.size h) (fun _ => rfl)) (.dma sS)) (.dma sR) hsrc hdst hsem) k) Q) := by
  subst hd hS hR
  iintro ⟨#HC, Hkv, Hkvo, #Hr, Ht0, Ht1, HO⟩ Hk
  iapply (Rounds.wp_send_pointsTo 𝒱₀ ER (sched m) (c : Thread nD τ) none (c' := (ynbr c : Thread nD τ))
      (src := kvM.slice (Rect.unit (s := S8x1024x256) o S2x1024x256.size h) (fun _ => rfl)) (dst := kvoM.slice (Rect.unit (s := S8x1024x256) o S2x1024x256.size h) (fun _ => rfl))
      (sS := .dma (dS 0 g)) (sem := .dma (dS 1 g)) (q := fullShare) (fs := KV m c) (κ₁ := K (c, some (0, g))) (κ₂ := K (ynbr c, some (1, g)))
      (r₁ := 0) (r₂ := 0) (d₁ := 0) (d₂ := 0) (fd := fd)
      (by rw [duties_d]; exact Finset.mem_singleton_self _) (by rw [duties_d]; exact Finset.mem_singleton_self _)
      () () N1 rfl (amount_d m c 0 g 0) (amount_d m (ynbr c) 1 g 0) O rfl (W := W)
      (Entails.of_eq ((kv_src c o h g.val ho _).trans (by rw [payload_d, dPay_0])))
      (Entails.of_eq ((kv_dst (ynbr c) o h g.val ho _ _).trans (by rw [payload_d, dPay_1, ynbr_ynbr])))) $$ [Hkv Hkvo HO Ht0 Ht1]
  · isplitr; · iapply (inv_d m K c 0 g); iapply (ctx_inv m K c); iexact HC
    isplitr; · iapply (inv_d m K (ynbr c) 1 g); iapply (ctx_inv m K c); iexact HC
    isplitl [Hkv]; · rw [kv_src c o h g.val ho]; iexact Hkv
    isplitl [Hkvo]; · rw [kvo_src (ynbr c) o h g.val ho]; iexact Hkvo
    isplitl [HO]; · iexact HO
    isplitl [Ht0]; · iexact Ht0
    isplitr; · iapply (ctx_reached m K c 0 g); iexact HC
    isplitl [Ht1]; · iexact Ht1
    iexact Hr
  iintro ⟨Hc, HO⟩
  iapply Hk $$ Hc HO

/-- Sending a finished pair of rows to the partner along x. -/
theorem op_send_o {α : Type} {Q : α → sProp 𝕄} (K : CellIx → ℕ) (c : Dev nD) (g : Fin 4) (o : Fin 3 → ℕ) (h : ∀ a, o a + S2x1024x128.size a ≤ S16x1024x128.size a) (ho : o = ![2 * og c g, 0, 0])
    (d : Dev nD) (hd : d = xnbr c) (sS sR : DmaSem sig) (hS : sS = dS 2 g) (hR : sR = dS 3 g) {hsrc hdst hsem}
    (fd : S16x1024x128.Idx → Elt F .bf16) (O : CellTallies nD τ sig Unit) (W : Waits sig Unit)
    {k : PUnit → Prog (TpuEff nD τ sig (Elt F) Λ₀ .tc) α} :
    iprop(ctx m K c ∗ oP c (og c g) (OUT m c) ∗ oP (xnbr c) (og c g) fd ∗ reached ER (dCell (xnbr c) 3 g) 0
        ∗ dutyTok ER (dCell c 2 g) 0 0 ∗ dutyTok ER (dCell (xnbr c) 3 g) 0 0 ∗ owes (c : Thread nD τ) (O + tallyAt (dCell (xnbr c) 3 g) () N2) W)
      ⊢ iprop((cred (tallyAt (dCell c 2 g) () N2) -∗ owes (c : Thread nD τ) O W -∗ WP c (k ⟨⟩) Q)
      -∗ WP c (.op (.enqueueDma (oM.slice (Rect.unit (s := S16x1024x128) o S2x1024x128.size h) (fun _ => rfl))
          (.remote (Dev.tc d) (oM.slice (Rect.unit (s := S16x1024x128) o S2x1024x128.size h) (fun _ => rfl)) (.dma sS)) (.dma sR) hsrc hdst hsem) k) Q) := by
  subst hd hS hR
  iintro ⟨#HC, Hkv, Hkvo, #Hr, Ht0, Ht1, HO⟩ Hk
  iapply (Rounds.wp_send_pointsTo 𝒱₀ ER (sched m) (c : Thread nD τ) none (c' := (xnbr c : Thread nD τ))
      (src := oM.slice (Rect.unit (s := S16x1024x128) o S2x1024x128.size h) (fun _ => rfl)) (dst := oM.slice (Rect.unit (s := S16x1024x128) o S2x1024x128.size h) (fun _ => rfl))
      (sS := .dma (dS 2 g)) (sem := .dma (dS 3 g)) (q := fullShare) (fs := OUT m c) (κ₁ := K (c, some (2, g))) (κ₂ := K (xnbr c, some (3, g)))
      (r₁ := 0) (r₂ := 0) (d₁ := 0) (d₂ := 0) (fd := fd)
      (by rw [duties_d]; exact Finset.mem_singleton_self _) (by rw [duties_d]; exact Finset.mem_singleton_self _)
      () () N2 rfl (amount_d m c 2 g 0) (amount_d m (xnbr c) 3 g 0) O rfl (W := W)
      (Entails.of_eq ((o_src c o h (og c g) ho _).trans (by rw [payload_d, dPay_2])))
      (Entails.of_eq ((o_dst (xnbr c) o h (og c g) ho _ _).trans (by rw [payload_d, dPay_3, xnbr_xnbr, OUT_xnbr])))) $$ [Hkv Hkvo HO Ht0 Ht1]
  · isplitr; · iapply (inv_d m K c 2 g); iapply (ctx_inv m K c); iexact HC
    isplitr; · iapply (inv_d m K (xnbr c) 3 g); iapply (ctx_inv m K c); iexact HC
    isplitl [Hkv]; · rw [o_src c o h (og c g) ho]; iexact Hkv
    isplitl [Hkvo]; · rw [o_src (xnbr c) o h (og c g) ho]; iexact Hkvo
    isplitl [HO]; · iexact HO
    isplitl [Ht0]; · iexact Ht0
    isplitr; · iapply (ctx_reached m K c 2 g); iexact HC
    isplitl [Ht1]; · iexact Ht1
    iexact Hr
  iintro ⟨Hc, HO⟩
  iapply Hk $$ Hc HO

/-- Waiting for a transfer. -/
theorem op_wait {α : Type} {Q : α → sProp 𝕄} (K : CellIx → ℕ) (c : Dev nD) (k' g : Fin 4) (sem : DmaSem sig) (hs : sem = dS k' g) {sp sp' : Space} {s s' : Shape} {e e' : EltTy}
    {src : Memref sig .tc sp' s' e'} {dst : Memref sig .tc sp s e} {hsrc hdst} (hN : dst.view.dmaCredit = NK k')
    {n : ℕ} (O : CellTallies nD τ sig Unit) (hO : Above n O) (hn : (if k'.val < 2 then 2 else 3) ≤ n) (W : Waits sig Unit)
    {k : PUnit → Prog (TpuEff nD τ sig (Elt F) Λ₀ .tc) α} :
    iprop(ctx m K c ∗ cred (tallyAt (dCell c k' g) () (NK k')) ∗ atPos ER (dCell c k' g) 0 ∅ 0 ∗ owes (c : Thread nD τ) O W)
      ⊢ iprop((atPos ER (dCell c k' g) 1 ∅ 0 -∗ dPay m c k' g -∗ owes (c : Thread nD τ) O (insert (.dma sem, ()) W) -∗ WP c (k ⟨⟩) Q)
      -∗ WP c (.op (.waitDma2 sem src dst hsrc hdst) k) Q) := by
  subst hs
  iintro ⟨#HC, Hc, Hat, HO⟩ Hk
  iapply (Rounds.wp_wait_rest_token 𝒱₀ ER (sched m) (c : Thread nD τ) none (κ := K (c, some (k', g)))
      (wpE_waitDma2_eq 𝒱₀ (c : Thread nD τ) none Set.univ) (Set.mem_univ _) () (O := O) (W := W) (R := 0) (m := 0) (T := ∅)
      ((Nat.zero_add _).trans (hN.trans (expect_d m c k' g).symm))) $$ [Hc HO Hat]
  · isplitr; · iapply (inv_d m K c k' g); iapply (ctx_inv m K c); iexact HC
    isplitl [Hc]; · rw [hN]; iexact Hc
    isplitl [HO]; · iexact HO
    isplitr; · iapply (mayWait hO c (.dma (dS k' g)) (by rw [lv_d c k' g]; exact hn)); iapply (ctx_lev m K c); iexact HC
    iexact Hat
  iintro ⟨HO, Hat, -, Hpay⟩
  ihave Hp := (Entails.of_eq (rest_d m c k' g)) $$ Hpay
  iapply Hk $$ Hat Hp HO

end Cert.Proof.Att

end
-- ==== Proof.Head.lean ====
module

public import proofs.«01_k».proof.Proof.Ops

/-! The first point's block: the handshake, and the own keys and values copied row by row and sent pair by pair. -/

@[expose] public section

noncomputable section

namespace Cert.Proof.Att

open Cert.KernelIdeal Cert.KernelIdeal.Gen
open Idealize.ShloMosaic Idealize.ShloMosaic.TcCoe Idealize.ShloMosaic.Rounds Idealize.ShloMosaic.Pipeline
open Idealize.SL Idealize.SL.RA Idealize.SL.BI
open scoped Idealize.SL.BI
open Idealize.SL.BI.BIBase Idealize.SL.BI.Laws Idealize.SL.Sem Idealize.SL.ProofMode

variable {F : FTy → Type} [FloatOps F]

local notation "𝕄" => MT nD τ sig Unit (Elt F) ℕ UU ℕ

variable (m : (ℓ : Loc nD τ sig) → Buf (Elt F) ℓ)

/-! ## The handshake -/

/-- What the handshake starts from. -/
def B0 (c : Dev nD) (W : Waits sig Unit) : sProp 𝕄 :=
  iprop(owes (c : Thread nD τ) (O₀ c) W ∗ reached ER (barCell (ynbr c)) 0 ∗ reached ER (barCell (xnbr c)) 0
    ∗ dutyTok ER (barCell (ynbr c)) 0 0 ∗ dutyTok ER (barCell (xnbr c)) 0 1
    ∗ cred (tallyAt (barCell c) () 2) ∗ atPos ER (barCell c) 0 ∅ 0 ∗ barY (F := F) (ynbr c) ∗ barX (F := F) (xnbr c))
def B1 (c : Dev nD) : sProp 𝕄 :=
  iprop((∃ W, owes (c : Thread nD τ) (oweO c 0 + oweD c 0) W) ∗ atPos ER (barCell c) 1 ∅ 0 ∗ barY (F := F) c ∗ barX (F := F) c)

/-- A key/value pair before its transfer. -/
def A1 (c : Dev nD) (g : Fin 4) : sProp 𝕄 :=
  iprop(((∃ fd, kvoP (F := F) (ynbr c) g.val fd) ∗ reached ER (dCell (ynbr c) 1 g) 0) ∗ dutyTok ER (dCell c 0 g) 0 0 ∗ dutyTok ER (dCell (ynbr c) 1 g) 0 0)

theorem op_barrier {α : Type} {Q : α → sProp 𝕄} (K : CellIx → ℕ) (c : Dev nD) (W : Waits sig Unit) (d1 d2 : Dev nD) (h1 : d1 = ynbr c) (h2 : d2 = xnbr c)
    {k : PUnit → Prog (TpuEff nD τ sig (Elt F) Λ₀ .tc) α} :
    iprop(ctx m K c ∗ B0 c W) ⊢ iprop((B1 c -∗ WP c (k ⟨⟩) Q) -∗
      WP c (.op (.semSignal (d1, .tc) bS (1#32 : BitVec 32).toInt) fun _ => .op (.semSignal (d2, .tc) bS (1#32 : BitVec 32).toInt) fun _ => .op (.semWait bS (2#32 : BitVec 32).toInt) k) Q) := by
  subst h1 h2
  unfold B0 B1
  iintro ⟨#HC, HO, #Hry, #Hrx, Hty, Htx, Hc, Hat, HbY, HbX⟩ Hk
  iapply (Rounds.wp_signal 𝒱₀ ER (sched m) (c : Thread nD τ) none (dst := (ynbr c : Thread nD τ)) (sem := bS) (r := 0) (d := 0) (κ := K (ynbr c, none))
      (by rw [duties_bar]; exact Finset.mem_univ _) (amount_bar m (ynbr c) 0) () (oweO c 0 + oweD c 0 + tallyAt (barCell (xnbr c)) () 1) rfl)
    $$ [HO Hty HbY]
  · isplitr; · iapply (inv_bar m K (ynbr c)); iapply (ctx_inv m K c); iexact HC
    isplitl [HO]; · iexact HO
    isplitl [Hty]; · iexact Hty
    isplitl [HbY]; · rw [payload_barY]; iexact HbY
    iexact Hry
  iintro HO
  iapply (Rounds.wp_signal 𝒱₀ ER (sched m) (c : Thread nD τ) none (dst := (xnbr c : Thread nD τ)) (sem := bS) (r := 0) (d := 1) (κ := K (xnbr c, none))
      (by rw [duties_bar]; exact Finset.mem_univ _) (amount_bar m (xnbr c) 1) () (oweO c 0 + oweD c 0) rfl)
    $$ [HO Htx HbX]
  · isplitr; · iapply (inv_bar m K (xnbr c)); iapply (ctx_inv m K c); iexact HC
    isplitl [HO]; · iexact HO
    isplitl [Htx]; · iexact Htx
    isplitl [HbX]; · rw [payload_barX]; iexact HbX
    iexact Hrx
  iintro HO
  iapply (Rounds.wp_wait_rest_token 𝒱₀ ER (sched m) (c : Thread nD τ) none (κ := K (c, none))
      (wpE_semWait_eq 𝒱₀ (c : Thread nD τ) none Set.univ) (Set.mem_univ _) () (O := oweO c 0 + oweD c 0) (W := W) (R := 0) (m := 0) (T := ∅)
      ((Nat.zero_add 2).trans (expect_bar m c).symm)) $$ [Hc HO Hat]
  · isplitr; · iapply (inv_bar m K c); iapply (ctx_inv m K c); iexact HC
    isplitl [Hc]; · iexact Hc
    isplitl [HO]; · iexact HO
    isplitr; · iapply (mayWait ((above_oweO c 0 1 (by decide)).add (above_oweD c 0 1 (by decide))) c (.reg bS) le_rfl); iapply (ctx_lev m K c); iexact HC
    iexact Hat
  iintro ⟨HO, Hat, -, Hpay⟩
  ihave Hp := (Entails.of_eq (rest_bar m c)) $$ Hpay
  icases Hp with ⟨HY, HX⟩
  iapply Hk
  isplitl [HO]; · iexists _; iexact HO
  isplitl [Hat]; · iexact Hat
  isplitl [HY]; · iexact HY
  iexact HX

theorem op_ret {α : Type} {Q : α → sProp 𝕄} (c : Dev nD) (a : α) : Q a ⊢ WP c (.ret a) Q := by
  unfold WP
  rw [wp_ret]
  iintro H; imodintro; iexact H

/-! ## A row -/

/-- One row of the keys and values copied into its place. -/
theorem op_row {α : Type} {Q : α → sProp 𝕄} (c : Dev nD) (s : Fin 8) (g : ℕ) (hg : s.val / 2 = g) (f : S8x1024x256.Idx → Elt F .bf16)
    (os ok : Fin 3 → ℕ) (h1 : ∀ a, os a + S1024x1x256.size a ≤ S1024x8x256.size a) (h2 : ∀ a, ok a + S1x1024x256.size a ≤ S8x1024x256.size a) {hl1 hl2 hx hm}
    (hos : os = ![0, s.val, 0]) (hok : ok = ![s.val, 0, 0])
    (pay : (S1024x1x256.Idx → Elt F .bf16) → (S1x1024x256.Idx → Elt F .bf16)) (hp : pay (rowS (SA m c) s) = rowK (KV m c) s)
    {k : PUnit → Prog (TpuEff nD τ sig (Elt F) Λ₀ .tc) α} :
    iprop(sPts m c ∗ kvP c g f)
      ⊢ iprop((∀ f', ⌜AgK (KV m c) f' s.val ∧ ∀ s', s' ≠ s.val → AgK (KV m c) f s' → AgK (KV m c) f' s'⌝ -∗ sPts m c -∗ kvP c g f' -∗ WP c (k ⟨⟩) Q)
      -∗ WP c (.op (.load sM (Rect.unit (s := S1024x8x256) os S1024x1x256.size h1).toLoadRect hl1) fun v =>
          .op (.load kvM (Rect.unit (s := S8x1024x256) ok S1x1024x256.size h2).toLoadRect hl2) fun _ =>
          .op (.store kvM (Rect.unit (s := S8x1024x256) ok S1x1024x256.size h2) (pay v) Finset.univ hx hm) k) Q) := by
  iintro ⟨Hs, Hkv⟩ Hk
  iapply (op_load_s m c os h1 s hos) $$ Hs; iintro Hs
  iapply (op_load_kv c ok h2 s hok g hg f) $$ Hkv; iintro Hkv
  iapply (op_store_kv m c ok h2 s hok g hg f _ hp) $$ Hkv; iintro %f' %hf Hkv
  ispecialize Hk $$ %f' %hf
  iapply Hk $$ Hs Hkv

theorem kv_pair (c : Dev nD) (g : ℕ) (f : S8x1024x256.Idx → Elt F .bf16) (h0 : AgK (KV m c) f (2 * g)) (h1 : AgK (KV m c) f (2 * g + 1)) :
    kvP c g f = (kvP c g (KV m c) : sProp 𝕄) := pointsTo_congr (AgK.pair h0 h1)

theorem pay_row (f : S1024x8x256.Idx → Elt F .bf16) (s : Fin 8) : k0_pay1 (F := F) (rowS f s) = rowK (kvT f) s := row_kvT f _ _ s

section Parts
variable (K : CellIx → ℕ) (c : Dev nD) (i : grid0.Coords)
  (aq : Memref sig .tc .vmem S1x1024x128 .f32) (hq : aq.IsWhole) (h2 : sM.IsWhole) (h3 : oM.IsWhole) (h4 : kvM.IsWhole) (h5 : kvoM.IsWhole)

theorem part1_run {Q : PUnit → sProp 𝕄} (W : Waits sig Unit) (v2 v5 v6 v7 : BitVec 32) (hc : k0_cond1 i = 1#1) :
    iprop(ctx m K c ∗ B0 c W ∗ sPts m c ∗ ∃ f, kvP (F := F) c 0 f) ⊢ iprop((B1 c -∗ sPts m c -∗ kvP c 0 (KV m c) -∗ Q ⟨⟩) -∗
      WP c (k0_part1 (F := F) i aq hq sM h2 oM h3 kvM h4 kvoM h5 cc0_scratch2 cc0_scratch3 cc0_scratch4 cc0_scratch5 c v2 v5 v6 v7 hc) Q) := by
  rw [k0_part1_eq_skeleton]; unfold k0_part1_skel
  simp only [semSignalWord, semWaitWord, Prog.lift, Prog.bind_op, Prog.bind_ret, Prog.pure_eq_ret, Prog.bind_assoc]
  iintro ⟨#HC, HB, Hs, ⟨%f, Hkv⟩⟩ Hk
  iapply (op_barrier m K c W _ _ (dev1 c _) (dev2 c _)) $$ [HB]
  · isplitr; · iexact HC
    iexact HB
  iintro HB
  iapply (op_row m c 0 0 rfl f _ _ _ _ rfl rfl k0_pay1 (pay_row _ 0)) $$ [Hs Hkv]
  · isplitl [Hs]; · iexact Hs
    iexact Hkv
  iintro %f1 %hf1 Hs Hkv
  iapply (op_row m c 1 0 rfl f1 _ _ _ _ rfl rfl k0_pay2 (pay_row _ 1)) $$ [Hs Hkv]
  · isplitl [Hs]; · iexact Hs
    iexact Hkv
  iintro %f2 %hf2 Hs Hkv
  ihave Hkv := (Entails.of_eq (kv_pair m c 0 f2 (hf2.2 0 (by decide) hf1.1) hf2.1)) $$ Hkv
  iapply (op_ret c _)
  iapply Hk $$ HB Hs Hkv

/-- A pair's keys and values, copied, ahead of their transfer. -/
theorem op_send_pair {α : Type} {Q : α → sProp 𝕄} (g : Fin 4) (o : Fin 3 → ℕ) (h : ∀ a, o a + S2x1024x256.size a ≤ S8x1024x256.size a) (ho : o = ![2 * g.val, 0, 0])
    (d : Dev nD) (hd : d = ynbr c) (sS sR : DmaSem sig) (hS : sS = dS 0 g) (hR : sR = dS 1 g) {hsrc hdst hsem} (n : ℕ) (hn : n = g.val + 1)
    {k : PUnit → Prog (TpuEff nD τ sig (Elt F) Λ₀ .tc) α} :
    iprop(ctx m K c ∗ kvP c g.val (KV m c) ∗ A1 c g ∗ ∃ W, owes (c : Thread nD τ) (oweO c 0 + oweD c g.val) W)
      ⊢ iprop((cred (tallyAt (dCell c 0 g) () N1) -∗ (∃ W, owes (c : Thread nD τ) (oweO c 0 + oweD c n) W) -∗ WP c (k ⟨⟩) Q)
      -∗ WP c (.op (.enqueueDma (kvM.slice (Rect.unit (s := S8x1024x256) o S2x1024x256.size h) (fun _ => rfl))
          (.remote (Dev.tc d) (kvoM.slice (Rect.unit (s := S8x1024x256) o S2x1024x256.size h) (fun _ => rfl)) (.dma sS)) (.dma sR) hsrc hdst hsem) k) Q) := by
  subst hn
  unfold A1
  iintro ⟨#HC, Hkv, ⟨⟨⟨%fd, Hd⟩, #Hr⟩, Ht0, Ht1⟩, ⟨%W, HO⟩⟩ Hk
  iapply (op_send_kv m K c g o h ho d hd sS sR hS hR fd (oweO c 0 + oweD c (g.val + 1)) W) $$ [Hkv Hd Ht0 Ht1 HO]
  · isplitr; · iexact HC
    isplitl [Hkv]; · iexact Hkv
    isplitl [Hd]; · iexact Hd
    isplitr; · iexact Hr
    isplitl [Ht0]; · iexact Ht0
    isplitl [Ht1]; · iexact Ht1
    rw [add_assoc, ← oweD_succ]; iexact HO
  iintro Hc HO
  iapply Hk $$ Hc
  iexists W; iexact HO

theorem part2_run {Q : FVec F S1024x256 .bf16 → sProp 𝕄} (v2 v6 : BitVec 32) (hc : k0_cond1 i = 1#1) :
    iprop(ctx m K c ∗ sPts m c ∗ kvP c 0 (KV m c) ∗ A1 c 0 ∗ A1 c 1 ∗ (∃ W, owes (c : Thread nD τ) (oweO c 0 + oweD c 0) W) ∗ ∃ f, kvP (F := F) c 1 f)
      ⊢ iprop((cred (tallyAt (dCell c 0 0) () N1) -∗ cred (tallyAt (dCell c 0 1) () N1) -∗ (∃ W, owes (c : Thread nD τ) (oweO c 0 + oweD c 2) W) -∗ sPts m c -∗ Q (k0_pay5 (rowS (SA m c) 4))) -∗
      WP c (k0_part2 (F := F) i aq hq sM h2 oM h3 kvM h4 kvoM h5 cc0_scratch2 cc0_scratch3 cc0_scratch4 cc0_scratch5 c v2 v6 hc) Q) := by
  rw [k0_part2_eq_skeleton]; unfold k0_part2_skel
  simp only [Prog.lift, Prog.bind_op, Prog.bind_ret, Prog.pure_eq_ret, Prog.bind_assoc]
  iintro ⟨#HC, Hs, Hkv0, HA0, HA1, HO, ⟨%f, Hkv⟩⟩ Hk
  iapply (op_send_pair m K c 0 _ _ rfl _ (dev3 c _) _ _ rfl rfl 1 rfl) $$ [Hkv0 HA0 HO]
  · isplitr; · iexact HC
    isplitl [Hkv0]; · iexact Hkv0
    isplitl [HA0]; · iexact HA0
    iexact HO
  iintro Hc0 HO
  iapply (op_row m c 2 1 rfl f _ _ _ _ rfl rfl k0_pay3 (pay_row _ 2)) $$ [Hs Hkv]
  · isplitl [Hs]; · iexact Hs
    iexact Hkv
  iintro %f1 %hf1 Hs Hkv
  iapply (op_row m c 3 1 rfl f1 _ _ _ _ rfl rfl k0_pay4 (pay_row _ 3)) $$ [Hs Hkv]
  · isplitl [Hs]; · iexact Hs
    iexact Hkv
  iintro %f2 %hf2 Hs Hkv
  ihave Hkv := (Entails.of_eq (kv_pair m c 1 f2 (hf2.2 2 (by decide) hf1.1) hf2.1)) $$ Hkv
  iapply (op_send_pair m K c 1 _ _ rfl _ (dev4 c _) _ _ rfl rfl 2 rfl) $$ [Hkv HA1 HO]
  · isplitr; · iexact HC
    isplitl [Hkv]; · iexact Hkv
    isplitl [HA1]; · iexact HA1
    iexact HO
  iintro Hc1 HO
  iapply (op_load_s m c _ _ 4 rfl) $$ Hs; iintro Hs
  iapply (op_ret c _)
  iapply Hk $$ Hc0 Hc1 HO Hs

theorem part3_run {Q : FVec F S1024x256 .bf16 → sProp 𝕄} (v2 v6 : BitVec 32) (hc : k0_cond1 i = 1#1) :
    iprop(ctx m K c ∗ sPts m c ∗ A1 c 2 ∗ (∃ W, owes (c : Thread nD τ) (oweO c 0 + oweD c 2) W) ∗ (∃ f, kvP (F := F) c 2 f) ∗ ∃ f, kvP (F := F) c 3 f)
      ⊢ iprop((cred (tallyAt (dCell c 0 2) () N1) -∗ (∃ W, owes (c : Thread nD τ) (oweO c 0 + oweD c 3) W) -∗ sPts m c
          -∗ (∃ f, ⌜AgK (KV m c) f 6⌝ ∗ kvP (F := F) c 3 f) -∗ Q (k0_pay9 (rowS (SA m c) 7))) -∗
      WP c (k0_part3 (F := F) i aq hq sM h2 oM h3 kvM h4 kvoM h5 cc0_scratch2 cc0_scratch3 cc0_scratch4 cc0_scratch5 c v2 v6 hc (k0_pay5 (rowS (SA m c) 4))) Q) := by
  rw [k0_part3_eq_skeleton]; unfold k0_part3_skel
  simp only [Prog.lift, Prog.bind_op, Prog.bind_ret, Prog.pure_eq_ret, Prog.bind_assoc]
  iintro ⟨#HC, Hs, HA, HO, ⟨%f, Hkv⟩, ⟨%f3, Hkv3⟩⟩ Hk
  iapply (op_load_kv c _ _ 4 rfl 2 rfl f) $$ Hkv; iintro Hkv
  iapply (op_store_kv m c _ _ 4 rfl 2 rfl f _ (pay_row (SA m c) 4)) $$ Hkv; iintro %f1 %hf1 Hkv
  iapply (op_row m c 5 2 rfl f1 _ _ _ _ rfl rfl k0_pay7 (pay_row _ 5)) $$ [Hs Hkv]
  · isplitl [Hs]; · iexact Hs
    iexact Hkv
  iintro %f2 %hf2 Hs Hkv
  ihave Hkv := (Entails.of_eq (kv_pair m c 2 f2 (hf2.2 4 (by decide) hf1.1) hf2.1)) $$ Hkv
  iapply (op_send_pair m K c 2 _ _ rfl _ (dev5 c _) _ _ rfl rfl 3 rfl) $$ [Hkv HA HO]
  · isplitr; · iexact HC
    isplitl [Hkv]; · iexact Hkv
    isplitl [HA]; · iexact HA
    iexact HO
  iintro Hc0 HO
  iapply (op_row m c 6 3 rfl f3 _ _ _ _ rfl rfl k0_pay8 (pay_row _ 6)) $$ [Hs Hkv3]
  · isplitl [Hs]; · iexact Hs
    iexact Hkv3
  iintro %f4 %hf4 Hs Hkv
  iapply (op_load_s m c _ _ 7 rfl) $$ Hs; iintro Hs
  iapply (op_ret c _)
  iapply Hk $$ Hc0 HO Hs
  iexists f4
  isplitr; · ipureintro; exact hf4.1
  iexact Hkv

end Parts

end Cert.Proof.Att

end
-- ==== Proof.Body.lean ====
module

public import proofs.«01_k».proof.Proof.Head

/-! The kernel's body at every grid point, at any device. -/

@[expose] public section

noncomputable section

namespace Cert.Proof.Att

open Cert.KernelIdeal Cert.KernelIdeal.Gen
open Idealize.ShloMosaic Idealize.ShloMosaic.TcCoe Idealize.ShloMosaic.Rounds Idealize.ShloMosaic.Pipeline
open Idealize.SL Idealize.SL.RA Idealize.SL.BI
open scoped Idealize.SL.BI
open Idealize.SL.BI.BIBase Idealize.SL.BI.Laws Idealize.SL.Sem Idealize.SL.ProofMode

variable {F : FTy → Type} [FloatOps F]

local notation "𝕄" => MT nD τ sig Unit (Elt F) ℕ UU ℕ

variable (m : (ℓ : Loc nD τ sig) → Buf (Elt F) ℓ)

/-! ## Conditions, offsets and semaphores -/

theorem cond1_iff : ∀ i : grid0.Coords, k0_cond1 i = 1#1 ↔ (i 0).val = 0 := by decide +kernel
theorem cond2_iff : ∀ i : grid0.Coords, k0_cond2 i = 1#1 ↔ (i 0).val % 2 = 0 := by decide +kernel
theorem cond3_iff : ∀ i : grid0.Coords, k0_cond3 i = 1#1 ↔ (i 0).val % 2 = 1 := by decide +kernel
theorem cond4_iff : ∀ i : grid0.Coords, k0_cond4 i = 1#1 ↔ (i 0).val = 7 := by decide +kernel
theorem off1_eq : ∀ i : grid0.Coords, k0_off1 i = ![(i 0).val / 2] := by decide +kernel
theorem off2_eq : ∀ i : grid0.Coords, k0_off2 i = ![2 * ((i 0).val / 2), 0, 0] := by decide +kernel
theorem off5_eq : ∀ i : grid0.Coords, k0_off5 i = ![(i 0).val / 2] := by decide +kernel
theorem off6_eq : ∀ (i : grid0.Coords) (d : Dev nD), k0_off6 i d = ![8 * (d.val / 2) + 2 * ((i 0).val / 2), 0, 0] := by decide +kernel
theorem sem2 (o : Fin 1 → ℕ) (h) (g : Fin 4) (ho : o = ![g.val]) : ((cc0_scratch2.slice (Rect.unit (s := S4) o S1.size h)).squeeze S_ squeezes_S1_S_).sem = dS 0 g := by
  subst ho; revert g; decide +kernel
theorem sem3 (o : Fin 1 → ℕ) (h) (g : Fin 4) (ho : o = ![g.val]) : ((cc0_scratch3.slice (Rect.unit (s := S4) o S1.size h)).squeeze S_ squeezes_S1_S_).sem = dS 1 g := by
  subst ho; revert g; decide +kernel
theorem sem4 (o : Fin 1 → ℕ) (h) (g : Fin 4) (ho : o = ![g.val]) : ((cc0_scratch4.slice (Rect.unit (s := S4) o S1.size h)).squeeze S_ squeezes_S1_S_).sem = dS 2 g := by
  subst ho; revert g; decide +kernel
theorem sem5 (o : Fin 1 → ℕ) (h) (g : Fin 4) (ho : o = ![g.val]) : ((cc0_scratch5.slice (Rect.unit (s := S4) o S1.size h)).squeeze S_ squeezes_S1_S_).sem = dS 3 g := by
  subst ho; revert g; decide +kernel

theorem big4 (Φ : Fin 4 → sProp 𝕄) : bigSep Finset.univ Φ = iprop(Φ 0 ∗ Φ 1 ∗ Φ 2 ∗ Φ 3) := by
  rw [show (Finset.univ : Finset (Fin 4)) = {0, 1, 2, 3} by decide, bigSep_insert (by decide), bigSep_insert (by decide), bigSep_insert (by decide), bigSep_singleton]
  rfl

/-! ## The states between points -/

/-- A pair's keys and values after `n` points: on their way, or in both places. -/
def KVg (n : ℕ) (c : Dev nD) (g : Fin 4) : sProp 𝕄 :=
  if 2 * g.val < n then iprop(kvP c g.val (KV m c) ∗ kvoP c g.val (KV m (ynbr c)) ∗ atPos ER (dCell c 0 g) 1 ∅ 0 ∗ atPos ER (dCell c 1 g) 1 ∅ 0)
  else iprop(cred (tallyAt (dCell c 0 g) () N1) ∗ atPos ER (dCell c 0 g) 0 ∅ 0 ∗ cred (tallyAt (dCell c 1 g) () N1) ∗ atPos ER (dCell c 1 g) 0 ∅ 0)

/-- A pair of result rows before its transfer. -/
def O1 (c : Dev nD) (g : Fin 4) : sProp 𝕄 :=
  iprop(((∃ f', oP (F := F) (xnbr c) (og c g) f') ∗ reached ER (dCell (xnbr c) 3 g) 0) ∗ dutyTok ER (dCell c 2 g) 0 0 ∗ dutyTok ER (dCell (xnbr c) 3 g) 0 0 ∗ atPos ER (dCell c 2 g) 0 ∅ 0)
/-- A pair of result rows after `n` points. -/
def Og (n : ℕ) (c : Dev nD) (g : Fin 4) : sProp 𝕄 :=
  if 2 * g.val + 2 ≤ n then iprop(cred (tallyAt (dCell c 2 g) () N2) ∗ atPos ER (dCell c 2 g) 0 ∅ 0)
  else iprop((∃ f, ⌜2 * g.val < n → AgO (OUT m c) f (2 * og c g)⌝ ∗ oP c (og c g) f) ∗ O1 (F := F) c g)
def R3 (c : Dev nD) (g : Fin 4) : sProp 𝕄 := iprop(cred (tallyAt (dCell c 3 g) () N2) ∗ atPos ER (dCell c 3 g) 0 ∅ 0)

/-- Between points: `a` counts the pairs of keys and values that have arrived, `b` the result rows done. -/
def Stm (a b : ℕ) (c : Dev nD) : sProp 𝕄 :=
  iprop((∃ W, owes (c : Thread nD τ) (oweO c b) W) ∗ atPos ER (barCell c) 1 ∅ 0 ∗ bigSep Finset.univ (KVg m a c) ∗ bigSep Finset.univ (Og m b c) ∗ bigSep Finset.univ (R3 (F := F) c))

def A0 (c : Dev nD) (g : Fin 4) : sProp 𝕄 :=
  iprop((∃ f, kvP (F := F) c g.val f) ∗ (dutyTok ER (dCell c 0 g) 0 0 ∗ dutyTok ER (dCell (ynbr c) 1 g) 0 0) ∗ atPos ER (dCell c 0 g) 0 ∅ 0 ∗ cred (tallyAt (dCell c 1 g) () N1) ∗ atPos ER (dCell c 1 g) 0 ∅ 0)
def O0 (c : Dev nD) (g : Fin 4) : sProp 𝕄 :=
  iprop((∃ f, oP (F := F) c (og c g) f) ∗ dutyTok ER (dCell c 2 g) 0 0 ∗ dutyTok ER (dCell (xnbr c) 3 g) 0 0 ∗ atPos ER (dCell c 2 g) 0 ∅ 0)
/-- What the first point starts from. -/
def St0 (c : Dev nD) : sProp 𝕄 :=
  iprop((∃ W, B0 (F := F) c W) ∗ bigSep Finset.univ (A0 (F := F) c) ∗ bigSep Finset.univ (O0 (F := F) c) ∗ bigSep Finset.univ (R3 (F := F) c))

theorem op_bind {α β : Type} {Q : β → sProp 𝕄} (c : Dev nD) (p : Prog (TpuEff nD τ sig (Elt F) Λ₀ .tc) α) (k : α → Prog (TpuEff nD τ sig (Elt F) Λ₀ .tc) β) :
    WP c p (fun a => WP c (k a) Q) ⊢ WP c (p >>= k) Q := by
  unfold WP; rw [wp_bind]

section Parts
variable (K : CellIx → ℕ) (c : Dev nD) (i : grid0.Coords)
  (aq : Memref sig .tc .vmem S1x1024x128 .f32) (hq : aq.IsWhole) (h2 : sM.IsWhole) (h3 : oM.IsWhole) (h4 : kvM.IsWhole) (h5 : kvoM.IsWhole)

theorem og_start (g : Fin 4) : iprop(O0 (F := F) c g ∗ ((∃ f, oP (F := F) (xnbr c) (og c g) f) ∗ reached ER (dCell (xnbr c) 3 g) 0)) ⊢ Og m 0 c g := by
  unfold O0 Og O1
  rw [if_neg (by omega)]
  iintro ⟨⟨⟨%f, Hf⟩, Ht, Ht', Hat⟩, Hb⟩
  isplitl [Hf]
  · iexists f; isplitr
    · ipureintro; intro h; exact absurd h (by omega)
    iexact Hf
  isplitl [Hb]; · iexact Hb
  isplitl [Ht]; · iexact Ht
  isplitl [Ht']; · iexact Ht'
  iexact Hat

theorem kvg_start (g : Fin 4) : iprop(cred (tallyAt (dCell c 0 g) () N1) ∗ atPos ER (dCell c 0 g) 0 ∅ 0 ∗ cred (tallyAt (dCell c 1 g) () N1) ∗ atPos ER (dCell c 1 g) 0 ∅ 0) ⊢ KVg m 0 c g := by
  unfold KVg; rw [if_neg (by omega)]

/-- The first point's block. -/
theorem head_run {α : Type} {Q : α → sProp 𝕄} (v2 v5 v6 v7 : BitVec 32) (hc : k0_cond1 i = 1#1) {hl hx hm} {hlt : k0_dev6 c < nD}
    {k : PUnit → Prog (TpuEff nD τ sig (Elt F) Λ₀ .tc) α} :
    iprop(ctx m K c ∗ sPts m c ∗ St0 (F := F) c) ⊢ iprop((sPts m c -∗ Stm m 0 0 c -∗ WP c (k ⟨⟩) Q) -∗
      WP c (k0_part1 (F := F) i aq hq sM h2 oM h3 kvM h4 kvoM h5 cc0_scratch2 cc0_scratch3 cc0_scratch4 cc0_scratch5 c v2 v5 v6 v7 hc >>= fun _ =>
        k0_part2 (F := F) i aq hq sM h2 oM h3 kvM h4 kvoM h5 cc0_scratch2 cc0_scratch3 cc0_scratch4 cc0_scratch5 c v2 v6 hc >>= fun v127 =>
        k0_part3 (F := F) i aq hq sM h2 oM h3 kvM h4 kvoM h5 cc0_scratch2 cc0_scratch3 cc0_scratch4 cc0_scratch5 c v2 v6 hc v127 >>= fun v152 =>
        .op (.load kvM (Rect.unit (s := S8x1024x256) ![7, 0, 0] S1x1024x256.size inb_S8x1024x256_S1x1024x256_7_0_0).toLoadRect hl) fun _ =>
        .op (.store kvM (Rect.unit (s := S8x1024x256) ![7, 0, 0] S1x1024x256.size inb_S8x1024x256_S1x1024x256_7_0_0) (k0_pay10 v152) Finset.univ hx hm) fun _ =>
        .op (.enqueueDma (kvM.slice (Rect.unit (s := S8x1024x256) ![6, 0, 0] S2x1024x256.size inb_S8x1024x256_S2x1024x256_6_0_0) (fun _ => rfl))
          (.remote (Dev.tc (⟨k0_dev6 c, hlt⟩ : Dev nD)) (kvoM.slice (Rect.unit (s := S8x1024x256) ![6, 0, 0] S2x1024x256.size inb_S8x1024x256_S2x1024x256_6_0_0) (fun _ => rfl))
            (.dma ((cc0_scratch2.slice (Rect.unit (s := S4) ![3] S1.size inb_S4_S1_3)).squeeze S_ squeezes_S1_S_).sem))
          (.dma ((cc0_scratch3.slice (Rect.unit (s := S4) ![3] S1.size inb_S4_S1_3)).squeeze S_ squeezes_S1_S_).sem) (h4.wordExact_slice rfl _ wordsbf16_S8x1024x256_S2x1024x256_6_0_0) (h5.wordExact_slice rfl _ wordsbf16_S8x1024x256_S2x1024x256_6_0_0) ⟨⟨rfl, Or.inl rfl⟩, trivial⟩) k) Q) := by
  unfold St0 A0
  simp only [big4]
  iintro ⟨#HC, Hs, ⟨%W, HB⟩, ⟨⟨Hk0, Ht0, Ha0, Hc0, Hb0⟩, ⟨Hk1, Ht1, Ha1, Hc1, Hb1⟩, ⟨Hk2, Ht2, Ha2, Hc2, Hb2⟩, ⟨Hk3, Ht3, Ha3, Hc3, Hb3⟩⟩, ⟨HO0, HO1, HO2, HO3⟩, HR⟩ Hk
  iapply (op_bind c _ _)
  iapply (part1_run m K c i aq hq h2 h3 h4 h5 W v2 v5 v6 v7 hc) $$ [HB Hs Hk0]
  · isplitr; · iexact HC
    isplitl [HB]; · iexact HB
    isplitl [Hs]; · iexact Hs
    iexact Hk0
  iintro HB Hs Hk0
  unfold B1 barY barX
  simp only [big4]
  icases HB with ⟨HO, Hbar, ⟨HY0, HY1, HY2, HY3⟩, ⟨HX0, HX1, HX2, HX3⟩⟩
  iapply (op_bind c _ _)
  iapply (part2_run m K c i aq hq h2 h3 h4 h5 v2 v6 hc) $$ [Hs Hk0 HY0 Ht0 HY1 Ht1 HO Hk1]
  · unfold A1
    isplitr; · iexact HC
    isplitl [Hs]; · iexact Hs
    isplitl [Hk0]; · iexact Hk0
    isplitl [HY0 Ht0]
    · isplitl [HY0]; · iexact HY0
      iexact Ht0
    isplitl [HY1 Ht1]
    · isplitl [HY1]; · iexact HY1
      iexact Ht1
    isplitl [HO]; · iexact HO
    iexact Hk1
  iintro Hd0 Hd1 HO Hs
  iapply (op_bind c _ _)
  iapply (part3_run m K c i aq hq h2 h3 h4 h5 v2 v6 hc) $$ [Hs HY2 Ht2 HO Hk2 Hk3]
  · unfold A1
    isplitr; · iexact HC
    isplitl [Hs]; · iexact Hs
    isplitl [HY2 Ht2]
    · isplitl [HY2]; · iexact HY2
      iexact Ht2
    isplitl [HO]; · iexact HO
    isplitl [Hk2]; · iexact Hk2
    iexact Hk3
  iintro Hd2 HO Hs ⟨%f, %hf, Hk3⟩
  iapply (op_load_kv c _ _ 7 rfl 3 rfl f) $$ Hk3; iintro Hk3
  iapply (op_store_kv m c _ _ 7 rfl 3 rfl f _ (pay_row (SA m c) 7)) $$ Hk3; iintro %f1 %hf1 Hk3
  ihave Hk3 := (Entails.of_eq (kv_pair m c 3 f1 (hf1.2 6 (by decide) hf) hf1.1)) $$ Hk3
  iapply (op_send_pair m K c 3 _ _ rfl _ (dev6 c _) _ _ rfl rfl 4 rfl) $$ [Hk3 HY3 Ht3 HO]
  · unfold A1
    isplitr; · iexact HC
    isplitl [Hk3]; · iexact Hk3
    isplitl [HY3 Ht3]
    · isplitl [HY3]; · iexact HY3
      iexact Ht3
    iexact HO
  iintro Hd3 HO
  rw [oweD_4, add_zero]
  iapply Hk $$ Hs
  unfold Stm
  simp only [big4]
  isplitl [HO]; · iexact HO
  isplitl [Hbar]; · iexact Hbar
  isplitl [Hd0 Ha0 Hc0 Hb0 Hd1 Ha1 Hc1 Hb1 Hd2 Ha2 Hc2 Hb2 Hd3 Ha3 Hc3 Hb3]
  · isplitl [Hd0 Ha0 Hc0 Hb0]
    · iapply (kvg_start m c 0)
      isplitl [Hd0]; · iexact Hd0
      isplitl [Ha0]; · iexact Ha0
      isplitl [Hc0]; · iexact Hc0
      iexact Hb0
    isplitl [Hd1 Ha1 Hc1 Hb1]
    · iapply (kvg_start m c 1)
      isplitl [Hd1]; · iexact Hd1
      isplitl [Ha1]; · iexact Ha1
      isplitl [Hc1]; · iexact Hc1
      iexact Hb1
    isplitl [Hd2 Ha2 Hc2 Hb2]
    · iapply (kvg_start m c 2)
      isplitl [Hd2]; · iexact Hd2
      isplitl [Ha2]; · iexact Ha2
      isplitl [Hc2]; · iexact Hc2
      iexact Hb2
    · iapply (kvg_start m c 3)
      isplitl [Hd3]; · iexact Hd3
      isplitl [Ha3]; · iexact Ha3
      isplitl [Hc3]; · iexact Hc3
      iexact Hb3
  isplitl [HO0 HX0 HO1 HX1 HO2 HX2 HO3 HX3]
  · isplitl [HO0 HX0]
    · iapply (og_start m c 0)
      isplitl [HO0]; · iexact HO0
      iexact HX0
    isplitl [HO1 HX1]
    · iapply (og_start m c 1)
      isplitl [HO1]; · iexact HO1
      iexact HX1
    isplitl [HO2 HX2]
    · iapply (og_start m c 2)
      isplitl [HO2]; · iexact HO2
      iexact HX2
    · iapply (og_start m c 3)
      isplitl [HO3]; · iexact HO3
      iexact HX3
  iexact HR

/-! ## A point -/

theorem kvg_here (n : ℕ) (g : Fin 4) (h : 2 * g.val < n) :
    KVg m n c g = iprop(kvP c g.val (KV m c) ∗ kvoP c g.val (KV m (ynbr c)) ∗ atPos ER (dCell c 0 g) 1 ∅ 0 ∗ atPos ER (dCell c 1 g) 1 ∅ 0) := by
  unfold KVg; rw [if_pos h]
theorem kvg_away (n : ℕ) (g : Fin 4) (h : ¬ 2 * g.val < n) :
    KVg m n c g = iprop(cred (tallyAt (dCell c 0 g) () N1) ∗ atPos ER (dCell c 0 g) 0 ∅ 0 ∗ cred (tallyAt (dCell c 1 g) () N1) ∗ atPos ER (dCell c 1 g) 0 ∅ 0) := by
  unfold KVg; rw [if_neg h]
theorem kvg_step (n : ℕ) (g : Fin 4) (h : 2 * g.val ≠ n) : KVg m n c g = KVg m (n + 1) c g := by
  by_cases h' : 2 * g.val < n
  · rw [kvg_here m c n g h', kvg_here m c (n + 1) g (by omega)]
  · rw [kvg_away m c n g h', kvg_away m c (n + 1) g (by omega)]
theorem og_step (n : ℕ) (g : Fin 4) (h : g.val ≠ n / 2) : Og m n c g = Og m (n + 1) c g := by
  have e1 : (2 * g.val + 2 ≤ n) = (2 * g.val + 2 ≤ n + 1) := propext (by omega)
  have e2 : (2 * g.val < n) = (2 * g.val < n + 1) := propext (by omega)
  unfold Og; simp only [e1, e2]

theorem take (Φ : Fin 4 → sProp 𝕄) (g : Fin 4) : bigSep Finset.univ Φ = iprop(Φ g ∗ bigSep (Finset.univ.erase g) Φ) :=
  bigSep_erase (Finset.mem_univ g)

theorem credit_kvo (o : Fin 3 → ℕ) (h : ∀ a, o a + S2x1024x256.size a ≤ S8x1024x256.size a) :
    (kvoM.slice (Rect.unit (s := S8x1024x256) o S2x1024x256.size h) (fun _ => rfl)).view.dmaCredit = NK 1 :=
  (show _ = N1 from rfl).trans (if_pos (by decide)).symm
theorem credit_kv (o : Fin 3 → ℕ) (h : ∀ a, o a + S2x1024x256.size a ≤ S8x1024x256.size a) :
    (kvM.slice (Rect.unit (s := S8x1024x256) o S2x1024x256.size h) (fun _ => rfl)).view.dmaCredit = NK 0 :=
  (show _ = N1 from rfl).trans (if_pos (by decide)).symm
theorem credit_o (o : Fin 3 → ℕ) (h : ∀ a, o a + S2x1024x128.size a ≤ S16x1024x128.size a) (k : Fin 4) (hk : ¬ k.val < 2) :
    (oM.slice (Rect.unit (s := S16x1024x128) o S2x1024x128.size h) (fun _ => rfl)).view.dmaCredit = NK k :=
  (show _ = N2 from rfl).trans (if_neg hk).symm

/-- The waits of an even point. -/
theorem waits_run {α : Type} {Q : α → sProp 𝕄} (n : ℕ) (g : Fin 4) (hg : n = 2 * g.val) (b : ℕ) (o1 o2 : Fin 1 → ℕ) (b1 : ∀ a, o1 a + S1.size a ≤ S4.size a) (b2 : ∀ a, o2 a + S1.size a ≤ S4.size a)
    (e1 : o1 = ![g.val]) (e2 : o2 = ![g.val]) (o : Fin 3 → ℕ) (h : ∀ a, o a + S2x1024x256.size a ≤ S8x1024x256.size a) {x1 x2 x3 x4}
    {k : PUnit → Prog (TpuEff nD τ sig (Elt F) Λ₀ .tc) α} :
    iprop(ctx m K c ∗ Stm m n b c) ⊢ iprop((Stm m (n + 1) b c -∗ WP c (k ⟨⟩) Q) -∗
      WP c (.op (.waitDma2 ((cc0_scratch3.slice (Rect.unit (s := S4) o1 S1.size b1)).squeeze S_ squeezes_S1_S_).sem
          (kvM.slice (Rect.unit (s := S8x1024x256) o S2x1024x256.size h) (fun _ => rfl)) (kvoM.slice (Rect.unit (s := S8x1024x256) o S2x1024x256.size h) (fun _ => rfl)) x1 x2) fun _ =>
        .op (.waitDma2 ((cc0_scratch2.slice (Rect.unit (s := S4) o2 S1.size b2)).squeeze S_ squeezes_S1_S_).sem
          (kvoM.slice (Rect.unit (s := S8x1024x256) o S2x1024x256.size h) (fun _ => rfl)) (kvM.slice (Rect.unit (s := S8x1024x256) o S2x1024x256.size h) (fun _ => rfl)) x3 x4) k) Q) := by
  unfold Stm
  rw [take (KVg m n c) g, take (KVg m (n + 1) c) g, kvg_away m c n g (by omega), kvg_here m c (n + 1) g (by omega),
    bigSep_congr (s := Finset.univ.erase g) (Φ := KVg m n c) (Ψ := KVg m (n + 1) c) fun g' hg' => kvg_step m c n g' fun e => (Finset.mem_erase.mp hg').1 (Fin.ext (by omega))]
  iintro ⟨#HC, ⟨%W, HO⟩, Hbar, ⟨⟨Hc0, Ha0, Hc1, Ha1⟩, Hrest⟩, HOg, HR⟩ Hk
  iapply (op_wait m K c 1 g _ (sem3 o1 b1 g e1) (dst := kvoM.slice (Rect.unit (s := S8x1024x256) o S2x1024x256.size h) (fun _ => rfl)) (credit_kvo o h) (n := 2) (oweO c b) (above_oweO c b 2 (by decide)) (by decide) W) $$ [Hc1 Ha1 HO]
  · isplitr; · iexact HC
    isplitl [Hc1]; · iexact Hc1
    isplitl [Ha1]; · iexact Ha1
    iexact HO
  iintro Ha1 Hp1 HO
  iapply (op_wait m K c 0 g _ (sem2 o2 b2 g e2) (dst := kvM.slice (Rect.unit (s := S8x1024x256) o S2x1024x256.size h) (fun _ => rfl)) (credit_kv o h) (n := 2) (oweO c b) (above_oweO c b 2 (by decide)) (by decide) _) $$ [Hc0 Ha0 HO]
  · isplitr; · iexact HC
    isplitl [Hc0]; · iexact Hc0
    isplitl [Ha0]; · iexact Ha0
    iexact HO
  iintro Ha0 Hp0 HO
  ihave Hp1 := (Entails.of_eq (dPay_1 m c g)) $$ Hp1
  ihave Hp0 := (Entails.of_eq (dPay_0 m c g)) $$ Hp0
  iapply Hk
  isplitl [HO]; · iexists _; iexact HO
  isplitl [Hbar]; · iexact Hbar
  isplitl [Hp0 Hp1 Ha0 Ha1 Hrest]
  · isplitl [Hp0 Hp1 Ha0 Ha1]
    · isplitl [Hp0]; · iexact Hp0
      isplitl [Hp1]; · iexact Hp1
      isplitl [Ha0]; · iexact Ha0
      iexact Ha1
    iexact Hrest
  isplitl [HOg]; · iexact HOg
  iexact HR

/-- The two loads of a head's keys and values. -/
theorem rows_run {α : Type} {Q : α → sProp 𝕄} (n : ℕ) (s : Fin 8) (hs : s.val < n) (b : ℕ) (o1 : Fin 3 → ℕ) (h1 : ∀ a, o1 a + S1x1024x256.size a ≤ S8x1024x256.size a)
    (e1 : o1 = ![s.val, 0, 0]) {l1 l2}
    {k : (S1x1024x256.Idx → Elt F .bf16) → (S1x1024x256.Idx → Elt F .bf16) → Prog (TpuEff nD τ sig (Elt F) Λ₀ .tc) α} :
    Stm m n b c ⊢ iprop((Stm m n b c -∗ WP c (k (rowK (KV m c) s) (rowK (KV m (ynbr c)) s)) Q) -∗
      WP c (.op (.load kvM (Rect.unit (s := S8x1024x256) o1 S1x1024x256.size h1).toLoadRect l1) fun v =>
        .op (.load kvoM (Rect.unit (s := S8x1024x256) o1 S1x1024x256.size h1).toLoadRect l2) fun w => k v w) Q) := by
  have hg : s.val / 2 < 4 := by omega
  unfold Stm
  rw [take (KVg m n c) ⟨s.val / 2, hg⟩, kvg_here m c n ⟨s.val / 2, hg⟩ (by show 2 * (s.val / 2) < n; omega)]
  iintro ⟨HO, Hbar, ⟨⟨Hp0, Hp1, Ha0, Ha1⟩, Hrest⟩, HOg, HR⟩ Hk
  iapply (op_load_kv c o1 h1 s e1 _ rfl _) $$ Hp0; iintro Hp0
  iapply (op_load_kvo c o1 h1 s e1 _ rfl _) $$ Hp1; iintro Hp1
  iapply Hk
  isplitl [HO]; · iexact HO
  isplitl [Hbar]; · iexact Hbar
  isplitl [Hp0 Hp1 Ha0 Ha1 Hrest]
  · isplitl [Hp0 Hp1 Ha0 Ha1]
    · isplitl [Hp0]; · iexact Hp0
      isplitl [Hp1]; · iexact Hp1
      isplitl [Ha0]; · iexact Ha0
      iexact Ha1
    iexact Hrest
  isplitl [HOg]; · iexact HOg
  iexact HR

/-- The state before point `n`. -/
def In (n : ℕ) (c : Dev nD) : sProp 𝕄 := if n = 0 then St0 (F := F) c else Stm m n n c

abbrev qR : Rect S1x1024x128 := Rect.unit (s := S1x1024x128) ![0, 0, 0] S1x1024x128.size inb_S1x1024x128_S1x1024x128_0_0_0

theorem op_load_q {α : Type} {Q : α → sProp 𝕄} {hl} (fq : Buf (Elt F) ((aq.access qR).loc (c : Thread nD τ))) (q : PosShare TreeShare)
    {k : (S1x1024x128.Idx → Elt F .f32) → Prog (TpuEff nD τ sig (Elt F) Λ₀ .tc) α} :
    ((aq.access qR).loc (c : Thread nD τ) ↦[Finset.univ]{q} fq : sProp 𝕄)
      ⊢ iprop((((aq.access qR).loc (c : Thread nD τ) ↦[Finset.univ]{q} fq) -∗ WP c (k ((aq.access qR).read (Elt F) fq)) Q)
      -∗ WP c (.op (.load aq qR.toLoadRect hl) k) Q) :=
  wp_load_rect (defs := defs₀ (F := F)) (Γ := .empty) (Q := Q) 𝒱₀ (c : Thread nD τ) none Set.univ (m := aq) (r := qR) (hl := hl) (k := k) (S := Finset.univ) (q := q) (f := fq) (Finset.subset_univ _)

/-- The loads of a point. -/
theorem loads_run {Q : (Σ' (arg0 : BitVec 32) (d0 : Dev nD) (v5 : BitVec 32) (v7 : BitVec 32) (v8 : BitVec 32) (v26 : FVec F S1024x128 .f32) (v29 : FVec F S1024x256 .bf16), Vec F S1x1024x256 .bf16) → sProp 𝕄}
    (n : Fin 8) (o1 : Fin 3 → ℕ) (h1 : ∀ a, o1 a + S1x1024x256.size a ≤ S8x1024x256.size a) (e1 : o1 = ![n.val, 0, 0]) {l1 l2 l3}
    (fq : Buf (Elt F) ((aq.access qR).loc (c : Thread nD τ))) (hread : (aq.access qR).read (Elt F) fq = rowQ (QA m c) n) (q : PosShare TreeShare) (a v5 v7 v8 : BitVec 32) :
    iprop(sPts m c ∗ Stm m (n.val + 1) n.val c ∗ ((aq.access qR).loc (c : Thread nD τ) ↦[Finset.univ]{q} fq))
      ⊢ iprop((∀ a v5 v7 v8, sPts m c -∗ Stm m (n.val + 1) n.val c -∗ ((aq.access qR).loc (c : Thread nD τ) ↦[Finset.univ]{q} fq)
          -∗ Q ⟨a, c, v5, v7, v8, k0_pay11 (rowQ (QA m c) n), k0_pay12 (rowK (KV m c) n), rowK (KV m (ynbr c)) n⟩) -∗
      WP c (.op (.load aq qR.toLoadRect l1) fun v25 =>
        .op (.load kvM (Rect.unit (s := S8x1024x256) o1 S1x1024x256.size h1).toLoadRect l2) fun v28 =>
        .op (.load kvoM (Rect.unit (s := S8x1024x256) o1 S1x1024x256.size h1).toLoadRect l3) fun v31 =>
        .ret ⟨a, c, v5, v7, v8, k0_pay11 v25, k0_pay12 v28, v31⟩) Q) := by
  iintro ⟨Hs, HS, Hq⟩ Hk
  iapply (op_load_q c aq (hl := l1) fq q) $$ Hq; iintro Hq
  rw [hread]
  iapply (rows_run m c (Q := Q) (n.val + 1) n (Nat.lt_succ_self _) n.val o1 h1 e1 (l1 := l2) (l2 := l3) (k := fun v28 v31 => .ret ⟨a, c, v5, v7, v8, k0_pay11 (rowQ (QA m c) n), k0_pay12 v28, v31⟩)) $$ HS; iintro HS
  iapply (op_ret c _)
  ispecialize Hk $$ %a %v5 %v7 %v8
  iapply Hk $$ Hs HS Hq

theorem part6_run {Q : (Σ' (arg0 : BitVec 32) (d0 : Dev nD) (v5 : BitVec 32) (v7 : BitVec 32) (v8 : BitVec 32) (v26 : FVec F S1024x128 .f32) (v29 : FVec F S1024x256 .bf16), Vec F S1x1024x256 .bf16) → sProp 𝕄}
    (n : Fin 8) (hn : (i 0).val = n.val) (fq : Buf (Elt F) ((aq.access qR).loc (c : Thread nD τ))) (hread : (aq.access qR).read (Elt F) fq = rowQ (QA m c) n) (q : PosShare TreeShare) :
    iprop(ctx m K c ∗ sPts m c ∗ In m n.val c ∗ ((aq.access qR).loc (c : Thread nD τ) ↦[Finset.univ]{q} fq))
      ⊢ iprop((∀ a v5 v7 v8, sPts m c -∗ Stm m (n.val + 1) n.val c -∗ ((aq.access qR).loc (c : Thread nD τ) ↦[Finset.univ]{q} fq)
          -∗ Q ⟨a, c, v5, v7, v8, k0_pay11 (rowQ (QA m c) n), k0_pay12 (rowK (KV m c) n), rowK (KV m (ynbr c)) n⟩) -∗
      WP c (k0_part6 (F := F) i aq hq sM h2 oM h3 kvM h4 kvoM h5 cc0_scratch2 cc0_scratch3 cc0_scratch4 cc0_scratch5) Q) := by
  rw [k0_part6_eq_skeleton]; unfold k0_part6_skel
  simp only [Prog.lift, Prog.bind_op, Prog.bind_ret, Prog.pure_eq_ret, Prog.bind_assoc, wp_deviceId]
  have e2 : k0_off3 i = ![n.val, 0, 0] := by rw [k0_off3_eq, hn]
  by_cases hc2 : k0_cond2 i = 1#1
  · have hpar := (cond2_iff i).mp hc2
    have hg4 : n.val / 2 < 4 := by omega
    simp only [hc2, dif_pos]
    by_cases hc1 : k0_cond1 i = 1#1
    · have h0 : n.val = 0 := by rw [← hn]; exact (cond1_iff i).mp hc1
      simp only [hc1, dif_pos]
      unfold In; rw [if_pos h0]
      iintro ⟨#HC, Hs, HS, Hq⟩ Hk
      iapply (head_run m K c i aq hq h2 h3 h4 h5 _ _ _ _ hc1) $$ [Hs HS]
      · isplitr; · iexact HC
        isplitl [Hs]; · iexact Hs
        iexact HS
      iintro Hs HS
      iapply (waits_run m K c n.val ⟨n.val / 2, hg4⟩ (by show n.val = 2 * (n.val / 2); omega) n.val _ _ _ _ (by rw [off1_eq, hn]) (by rw [off1_eq, hn]) _ _) $$ [HS]
      · isplitr; · iexact HC
        rw [h0]; iexact HS
      iintro HS
      iapply (loads_run m c aq n _ _ e2 fq hread q) $$ [Hs HS Hq]
      · isplitl [Hs]; · iexact Hs
        isplitl [HS]; · iexact HS
        iexact Hq
      iexact Hk
    · have h0 : n.val ≠ 0 := by rw [← hn]; exact fun e => hc1 ((cond1_iff i).mpr e)
      simp only [hc1, not_false_eq_true, dif_neg]
      unfold In; rw [if_neg h0]
      iintro ⟨#HC, Hs, HS, Hq⟩ Hk
      iapply (waits_run m K c n.val ⟨n.val / 2, hg4⟩ (by show n.val = 2 * (n.val / 2); omega) n.val _ _ _ _ (by rw [off1_eq, hn]) (by rw [off1_eq, hn]) _ _) $$ [HS]
      · isplitr; · iexact HC
        iexact HS
      iintro HS
      iapply (loads_run m c aq n _ _ e2 fq hread q) $$ [Hs HS Hq]
      · isplitl [Hs]; · iexact Hs
        isplitl [HS]; · iexact HS
        iexact Hq
      iexact Hk
  · have hpar : n.val % 2 ≠ 0 := by rw [← hn]; exact fun e => hc2 ((cond2_iff i).mpr e)
    have h0 : n.val ≠ 0 := by omega
    have hc1 : ¬ k0_cond1 i = 1#1 := fun e => h0 (by rw [← hn]; exact (cond1_iff i).mp e)
    simp only [hc1, hc2, not_false_eq_true, dif_neg]
    unfold In; rw [if_neg h0]
    iintro ⟨#HC, Hs, HS, Hq⟩ Hk
    iapply (loads_run m c aq n _ _ e2 fq hread q) $$ [Hs HS Hq]
    · isplitl [Hs]; · iexact Hs
      isplitl [HS]
      · unfold Stm
        rw [bigSep_congr (s := Finset.univ) (Φ := KVg m n.val c) (Ψ := KVg m (n.val + 1) c) fun g' _ => kvg_step m c n.val g' (by omega)]
        iexact HS
      iexact Hq
    iexact Hk

end Parts

end Cert.Proof.Att

end
-- ==== Proof.Point.lean ====
module

public import proofs.«01_k».proof.Proof.Body

/-! A whole grid point: the row of the result, its transfer, and the last waits. -/

@[expose] public section

noncomputable section

namespace Cert.Proof.Att

open Cert.KernelIdeal Cert.KernelIdeal.Gen
open Idealize.ShloMosaic Idealize.ShloMosaic.TcCoe Idealize.ShloMosaic.Rounds Idealize.ShloMosaic.Pipeline
open Idealize.SL Idealize.SL.RA Idealize.SL.BI
open scoped Idealize.SL.BI
open Idealize.SL.BI.BIBase Idealize.SL.BI.Laws Idealize.SL.Sem Idealize.SL.ProofMode

variable {F : FTy → Type} [FloatOps F]

local notation "𝕄" => MT nD τ sig Unit (Elt F) ℕ UU ℕ

variable (m : (ℓ : Loc nD τ sig) → Buf (Elt F) ℓ)

/-- The last state: every transfer taken, nothing owed. -/
def Fin' (c : Dev nD) : sProp 𝕄 :=
  iprop((∃ W, owes (c : Thread nD τ) (0 : CellTallies nD τ sig Unit) W) ∗ atPos ER (barCell c) 1 ∅ 0 ∗ bigSep Finset.univ (KVg m 8 c)
    ∗ (bigSep Finset.univ fun g : Fin 4 => iprop(atPos ER (dCell c 2 g) 1 ∅ 0 ∗ oP c (og c g) (OUT m c)))
    ∗ (bigSep Finset.univ fun g : Fin 4 => iprop(atPos ER (dCell c 3 g) 1 ∅ 0 ∗ oP c (og (xnbr c) g) (OUT m c))))

/-- The state after point `n`. -/
def Nx (n : ℕ) (c : Dev nD) : sProp 𝕄 := if n = 7 then Fin' m c else Stm m (n + 1) (n + 1) c

section Parts
variable (K : CellIx → ℕ) (c : Dev nD) (i : grid0.Coords)
  (aq : Memref sig .tc .vmem S1x1024x128 .f32) (hq : aq.IsWhole) (h2 : sM.IsWhole) (h3 : oM.IsWhole) (h4 : kvM.IsWhole) (h5 : kvoM.IsWhole)

theorem og_open (n : ℕ) (g : Fin 4) (h : ¬ 2 * g.val + 2 ≤ n) :
    Og m n c g = iprop((∃ f, ⌜2 * g.val < n → AgO (OUT m c) f (2 * og c g)⌝ ∗ oP c (og c g) f) ∗ O1 (F := F) c g) := by
  unfold Og; rw [if_neg h]
theorem og_sent (n : ℕ) (g : Fin 4) (h : 2 * g.val + 2 ≤ n) :
    Og m n c g = iprop(cred (tallyAt (dCell c 2 g) () N2) ∗ atPos ER (dCell c 2 g) 0 ∅ 0) := by
  unfold Og; rw [if_pos h]

/-- The result's row at an even point. -/
theorem even_run {α : Type} {Q : α → sProp 𝕄} (n : Fin 8) (hpar : n.val % 2 = 0) (a : ℕ) (o : Fin 3 → ℕ) (h : ∀ a, o a + S1x1024x128.size a ≤ S16x1024x128.size a)
    (ho : o = ![8 * (c.val / 2) + n.val, 0, 0]) (w : S1x1024x128.Idx → Elt F .bf16) (hw : w = RES m c n) {hl hx hm}
    {k : PUnit → Prog (TpuEff nD τ sig (Elt F) Λ₀ .tc) α} :
    Stm m a n.val c ⊢ iprop((Stm m a (n.val + 1) c -∗ WP c (k ⟨⟩) Q) -∗
      WP c (.op (.load oM (Rect.unit (s := S16x1024x128) o S1x1024x128.size h).toLoadRect hl) fun _ =>
        .op (.store oM (Rect.unit (s := S16x1024x128) o S1x1024x128.size h) w Finset.univ hx hm) k) Q) := by
  have hg4 : n.val / 2 < 4 := by omega
  have hne : ∀ g' ∈ Finset.univ.erase (⟨n.val / 2, hg4⟩ : Fin 4), Og m n.val c g' = Og m (n.val + 1) c g' := fun g' hg' =>
    og_step m c n.val g' fun e => (Finset.mem_erase.mp hg').1 (Fin.ext e)
  have hO : oweO c n.val = oweO c (n.val + 1) := by
    have := oweO_even c ⟨n.val / 2, hg4⟩
    rwa [show 2 * (⟨n.val / 2, hg4⟩ : Fin 4).val = n.val by show 2 * (n.val / 2) = n.val; omega] at this
  unfold Stm
  rw [take (Og m n.val c) ⟨n.val / 2, hg4⟩, take (Og m (n.val + 1) c) ⟨n.val / 2, hg4⟩, bigSep_congr hne, hO,
    og_open m c n.val ⟨n.val / 2, hg4⟩ (by show ¬ 2 * (n.val / 2) + 2 ≤ n.val; omega),
    og_open m c (n.val + 1) ⟨n.val / 2, hg4⟩ (by show ¬ 2 * (n.val / 2) + 2 ≤ n.val + 1; omega)]
  iintro ⟨HO, Hbar, HKV, ⟨⟨⟨%f, -, Hf⟩, H1⟩, Hrest⟩, HR⟩ Hk
  iapply (op_load_o c o h (8 * (c.val / 2) + n.val) ho (og c ⟨n.val / 2, hg4⟩) (by unfold og; show _ = 4 * (c.val / 2) + n.val / 2; omega) f) $$ Hf
  iintro %v Hf
  iapply (op_store_o m c o h n ho (og c ⟨n.val / 2, hg4⟩) (by unfold og; show _ = 4 * (c.val / 2) + n.val / 2; omega) f w hw) $$ Hf
  iintro %f' %hf' Hf
  iapply Hk
  isplitl [HO]; · iexact HO
  isplitl [Hbar]; · iexact Hbar
  isplitl [HKV]; · iexact HKV
  isplitl [Hf H1 Hrest]
  · isplitl [Hf H1]
    · isplitl [Hf]
      · iexists f'
        isplitr
        · ipureintro; intro _
          have e : 2 * og c ⟨n.val / 2, hg4⟩ = 8 * (c.val / 2) + n.val := by unfold og; show 2 * (4 * (c.val / 2) + n.val / 2) = _; omega
          rw [e]; exact hf'.1
        iexact Hf
      iexact H1
    iexact Hrest
  iexact HR

theorem o_pair (g : ℕ) (f : S16x1024x128.Idx → Elt F .bf16) (h0 : AgO (OUT m c) f (2 * g)) (h1 : AgO (OUT m c) f (2 * g + 1)) :
    oP c g f = (oP c g (OUT m c) : sProp 𝕄) := pointsTo_congr (AgO.pair h0 h1)

/-- The result's row at an odd point, and the transfer of the pair. -/
theorem odd_run {α : Type} {Q : α → sProp 𝕄} (n : Fin 8) (hpar : n.val % 2 = 1) (a : ℕ) (o : Fin 3 → ℕ) (h : ∀ a, o a + S1x1024x128.size a ≤ S16x1024x128.size a)
    (ho : o = ![8 * (c.val / 2) + n.val, 0, 0]) (w : S1x1024x128.Idx → Elt F .bf16) (hw : w = RES m c n) {hl hx hm}
    (o' : Fin 3 → ℕ) (h' : ∀ a, o' a + S2x1024x128.size a ≤ S16x1024x128.size a) (ho' : o' = ![8 * (c.val / 2) + 2 * (n.val / 2), 0, 0])
    (d : Dev nD) (hd : d = xnbr c) (o1 o2 : Fin 1 → ℕ) (b1 : ∀ a, o1 a + S1.size a ≤ S4.size a) (b2 : ∀ a, o2 a + S1.size a ≤ S4.size a) (e1 : o1 = ![n.val / 2]) (e2 : o2 = ![n.val / 2])
    (x1 x2 : (oM.slice (Rect.unit (s := S16x1024x128) o' S2x1024x128.size h') (fun _ => rfl)).view.WordExact)
    {k : PUnit → Prog (TpuEff nD τ sig (Elt F) Λ₀ .tc) α} :
    iprop(ctx m K c ∗ Stm m a n.val c) ⊢ iprop((Stm m a (n.val + 1) c -∗ WP c (k ⟨⟩) Q) -∗
      WP c (.op (.load oM (Rect.unit (s := S16x1024x128) o S1x1024x128.size h).toLoadRect hl) fun _ =>
        .op (.store oM (Rect.unit (s := S16x1024x128) o S1x1024x128.size h) w Finset.univ hx hm) fun _ =>
        .op (.enqueueDma (oM.slice (Rect.unit (s := S16x1024x128) o' S2x1024x128.size h') (fun _ => rfl))
          (.remote (Dev.tc d) (oM.slice (Rect.unit (s := S16x1024x128) o' S2x1024x128.size h') (fun _ => rfl))
            (.dma ((cc0_scratch4.slice (Rect.unit (s := S4) o1 S1.size b1)).squeeze S_ squeezes_S1_S_).sem))
          (.dma ((cc0_scratch5.slice (Rect.unit (s := S4) o2 S1.size b2)).squeeze S_ squeezes_S1_S_).sem) x1 x2 ⟨⟨rfl, Or.inl rfl⟩, trivial⟩) k) Q) := by
  have hg4 : n.val / 2 < 4 := by omega
  obtain ⟨g, hg⟩ : ∃ g : Fin 4, g.val = n.val / 2 := ⟨⟨n.val / 2, hg4⟩, rfl⟩
  have hne : ∀ g' ∈ Finset.univ.erase g, Og m n.val c g' = Og m (n.val + 1) c g' := fun g' hg' =>
    og_step m c n.val g' fun e => (Finset.mem_erase.mp hg').1 (Fin.ext (by omega))
  have hO : oweO c n.val = oweO c (n.val + 1) + tallyAt (dCell (xnbr c) 3 g) () N2 := by
    have := oweO_odd c g
    rwa [show 2 * g.val + 1 = n.val by omega, show 2 * g.val + 2 = n.val + 1 by omega] at this
  have hog : 2 * og c g + 1 = 8 * (c.val / 2) + n.val := by unfold og; omega
  unfold Stm
  rw [take (Og m n.val c) g, take (Og m (n.val + 1) c) g, bigSep_congr hne, hO,
    og_open m c n.val g (by omega), og_sent m c (n.val + 1) g (by omega)]
  iintro ⟨#HC, ⟨%W, HO⟩, Hbar, HKV, ⟨⟨⟨%f, %hf, Hf⟩, H1⟩, Hrest⟩, HR⟩ Hk
  iapply (op_load_o c o h (8 * (c.val / 2) + n.val) ho (og c g) (by omega) f) $$ Hf
  iintro %v Hf
  iapply (op_store_o m c o h n ho (og c g) (by omega) f w hw) $$ Hf
  iintro %f' %hf' Hf
  ihave Hf := (Entails.of_eq (o_pair m c (og c g) f' (hf'.2 _ (by omega) (hf (by omega))) (by rw [hog]; exact hf'.1))) $$ Hf
  unfold O1
  icases H1 with ⟨⟨⟨%fd, Hd⟩, #Hr⟩, Ht, Ht', Hat⟩
  iapply (op_send_o m K c g o' h' (by rw [ho']; congr 1; unfold og; omega) d hd _ _ (sem4 o1 b1 g (by rw [e1, hg])) (sem5 o2 b2 g (by rw [e2, hg])) fd (oweO c (n.val + 1)) W) $$ [Hf Hd Ht Ht' HO]
  · isplitr; · iexact HC
    isplitl [Hf]; · iexact Hf
    isplitl [Hd]; · iexact Hd
    isplitr; · iexact Hr
    isplitl [Ht]; · iexact Ht
    isplitl [Ht']; · iexact Ht'
    iexact HO
  iintro Hc HO
  iapply Hk
  isplitl [HO]; · iexists W; iexact HO
  isplitl [Hbar]; · iexact Hbar
  isplitl [HKV]; · iexact HKV
  isplitl [Hc Hat Hrest]
  · isplitl [Hc Hat]
    · isplitl [Hc]; · iexact Hc
      iexact Hat
    iexact Hrest
  iexact HR

/-! ## The last waits -/

theorem op_wait2 {α : Type} {Q : α → sProp 𝕄} (g : Fin 4) (o1 : Fin 1 → ℕ) (b1 : ∀ a, o1 a + S1.size a ≤ S4.size a) (e1 : o1 = ![g.val])
    (o : Fin 3 → ℕ) (h : ∀ a, o a + S2x1024x128.size a ≤ S16x1024x128.size a) {x1 x2} {k : PUnit → Prog (TpuEff nD τ sig (Elt F) Λ₀ .tc) α} :
    iprop(ctx m K c ∗ (cred (tallyAt (dCell c 2 g) () N2) ∗ atPos ER (dCell c 2 g) 0 ∅ 0) ∗ ∃ W, owes (c : Thread nD τ) (0 : CellTallies nD τ sig Unit) W)
      ⊢ iprop(((atPos ER (dCell c 2 g) 1 ∅ 0 ∗ oP c (og c g) (OUT m c)) -∗ (∃ W, owes (c : Thread nD τ) (0 : CellTallies nD τ sig Unit) W) -∗ WP c (k ⟨⟩) Q) -∗
      WP c (.op (.waitDma2 ((cc0_scratch4.slice (Rect.unit (s := S4) o1 S1.size b1)).squeeze S_ squeezes_S1_S_).sem
          (oM.slice (Rect.unit (s := S16x1024x128) o S2x1024x128.size h) (fun _ => rfl)) (oM.slice (Rect.unit (s := S16x1024x128) o S2x1024x128.size h) (fun _ => rfl)) x1 x2) k) Q) := by
  iintro ⟨#HC, ⟨Hc, Ha⟩, ⟨%W, HO⟩⟩ Hk
  iapply (op_wait m K c 2 g _ (sem4 o1 b1 g e1) (dst := oM.slice (Rect.unit (s := S16x1024x128) o S2x1024x128.size h) (fun _ => rfl)) (credit_o o h 2 (by decide)) (n := 3) 0 (Above.zero 3) (by decide) W) $$ [Hc Ha HO]
  · isplitr; · iexact HC
    isplitl [Hc]; · iexact Hc
    isplitl [Ha]; · iexact Ha
    iexact HO
  iintro Ha Hp HO
  ihave Hp := (Entails.of_eq (dPay_2 m c g)) $$ Hp
  iapply Hk $$ [Ha Hp]
  · isplitl [Ha]; · iexact Ha
    iexact Hp
  iexists _; iexact HO
theorem op_wait3 {α : Type} {Q : α → sProp 𝕄} (g : Fin 4) (o1 : Fin 1 → ℕ) (b1 : ∀ a, o1 a + S1.size a ≤ S4.size a) (e1 : o1 = ![g.val])
    (o : Fin 3 → ℕ) (h : ∀ a, o a + S2x1024x128.size a ≤ S16x1024x128.size a) {x1 x2} {k : PUnit → Prog (TpuEff nD τ sig (Elt F) Λ₀ .tc) α} :
    iprop(ctx m K c ∗ R3 (F := F) c g ∗ ∃ W, owes (c : Thread nD τ) (0 : CellTallies nD τ sig Unit) W)
      ⊢ iprop(((atPos ER (dCell c 3 g) 1 ∅ 0 ∗ oP c (og (xnbr c) g) (OUT m c)) -∗ (∃ W, owes (c : Thread nD τ) (0 : CellTallies nD τ sig Unit) W) -∗ WP c (k ⟨⟩) Q) -∗
      WP c (.op (.waitDma2 ((cc0_scratch5.slice (Rect.unit (s := S4) o1 S1.size b1)).squeeze S_ squeezes_S1_S_).sem
          (oM.slice (Rect.unit (s := S16x1024x128) o S2x1024x128.size h) (fun _ => rfl)) (oM.slice (Rect.unit (s := S16x1024x128) o S2x1024x128.size h) (fun _ => rfl)) x1 x2) k) Q) := by
  unfold R3
  iintro ⟨#HC, ⟨Hc, Ha⟩, ⟨%W, HO⟩⟩ Hk
  iapply (op_wait m K c 3 g _ (sem5 o1 b1 g e1) (dst := oM.slice (Rect.unit (s := S16x1024x128) o S2x1024x128.size h) (fun _ => rfl)) (credit_o o h 3 (by decide)) (n := 3) 0 (Above.zero 3) (by decide) W) $$ [Hc Ha HO]
  · isplitr; · iexact HC
    isplitl [Hc]; · iexact Hc
    isplitl [Ha]; · iexact Ha
    iexact HO
  iintro Ha Hp HO
  ihave Hp := (Entails.of_eq (dPay_3 m c g)) $$ Hp
  iapply Hk $$ [Ha Hp]
  · isplitl [Ha]; · iexact Ha
    iexact Hp
  iexists _; iexact HO

/-- The eight waits of the last point. -/
theorem fin_run {α : Type} {Q : α → sProp 𝕄}
    (o0 o1 o2 o3 : Fin 3 → ℕ) (h0 : ∀ a, o0 a + S2x1024x128.size a ≤ S16x1024x128.size a) (h1 : ∀ a, o1 a + S2x1024x128.size a ≤ S16x1024x128.size a)
    (h2 : ∀ a, o2 a + S2x1024x128.size a ≤ S16x1024x128.size a) (h3 : ∀ a, o3 a + S2x1024x128.size a ≤ S16x1024x128.size a)
    {b0 b1 b2 b3 x0 x0' x1 x1' x2 x2' x3 x3' y0 y0' y1 y1' y2 y2' y3 y3'}
    {k : PUnit → Prog (TpuEff nD τ sig (Elt F) Λ₀ .tc) α} :
    iprop(ctx m K c ∗ Stm m 8 8 c) ⊢ iprop((Fin' m c -∗ WP c (k ⟨⟩) Q) -∗
      WP c (.op (.waitDma2 ((cc0_scratch4.slice (Rect.unit (s := S4) ![0] S1.size b0)).squeeze S_ squeezes_S1_S_).sem
          (oM.slice (Rect.unit (s := S16x1024x128) o0 S2x1024x128.size h0) (fun _ => rfl)) (oM.slice (Rect.unit (s := S16x1024x128) o0 S2x1024x128.size h0) (fun _ => rfl)) x0 x0') fun _ =>
        .op (.waitDma2 ((cc0_scratch5.slice (Rect.unit (s := S4) ![0] S1.size b0)).squeeze S_ squeezes_S1_S_).sem
          (oM.slice (Rect.unit (s := S16x1024x128) o0 S2x1024x128.size h0) (fun _ => rfl)) (oM.slice (Rect.unit (s := S16x1024x128) o0 S2x1024x128.size h0) (fun _ => rfl)) y0 y0') fun _ =>
        .op (.waitDma2 ((cc0_scratch4.slice (Rect.unit (s := S4) ![1] S1.size b1)).squeeze S_ squeezes_S1_S_).sem
          (oM.slice (Rect.unit (s := S16x1024x128) o1 S2x1024x128.size h1) (fun _ => rfl)) (oM.slice (Rect.unit (s := S16x1024x128) o1 S2x1024x128.size h1) (fun _ => rfl)) x1 x1') fun _ =>
        .op (.waitDma2 ((cc0_scratch5.slice (Rect.unit (s := S4) ![1] S1.size b1)).squeeze S_ squeezes_S1_S_).sem
          (oM.slice (Rect.unit (s := S16x1024x128) o1 S2x1024x128.size h1) (fun _ => rfl)) (oM.slice (Rect.unit (s := S16x1024x128) o1 S2x1024x128.size h1) (fun _ => rfl)) y1 y1') fun _ =>
        .op (.waitDma2 ((cc0_scratch4.slice (Rect.unit (s := S4) ![2] S1.size b2)).squeeze S_ squeezes_S1_S_).sem
          (oM.slice (Rect.unit (s := S16x1024x128) o2 S2x1024x128.size h2) (fun _ => rfl)) (oM.slice (Rect.unit (s := S16x1024x128) o2 S2x1024x128.size h2) (fun _ => rfl)) x2 x2') fun _ =>
        .op (.waitDma2 ((cc0_scratch5.slice (Rect.unit (s := S4) ![2] S1.size b2)).squeeze S_ squeezes_S1_S_).sem
          (oM.slice (Rect.unit (s := S16x1024x128) o2 S2x1024x128.size h2) (fun _ => rfl)) (oM.slice (Rect.unit (s := S16x1024x128) o2 S2x1024x128.size h2) (fun _ => rfl)) y2 y2') fun _ =>
        .op (.waitDma2 ((cc0_scratch4.slice (Rect.unit (s := S4) ![3] S1.size b3)).squeeze S_ squeezes_S1_S_).sem
          (oM.slice (Rect.unit (s := S16x1024x128) o3 S2x1024x128.size h3) (fun _ => rfl)) (oM.slice (Rect.unit (s := S16x1024x128) o3 S2x1024x128.size h3) (fun _ => rfl)) x3 x3') fun _ =>
        .op (.waitDma2 ((cc0_scratch5.slice (Rect.unit (s := S4) ![3] S1.size b3)).squeeze S_ squeezes_S1_S_).sem
          (oM.slice (Rect.unit (s := S16x1024x128) o3 S2x1024x128.size h3) (fun _ => rfl)) (oM.slice (Rect.unit (s := S16x1024x128) o3 S2x1024x128.size h3) (fun _ => rfl)) y3 y3') k) Q) := by
  unfold Stm Fin'
  rw [oweO_8, bigSep_congr (s := Finset.univ) (Φ := Og m 8 c) (Ψ := fun g : Fin 4 => iprop(cred (tallyAt (dCell c 2 g) () N2) ∗ atPos ER (dCell c 2 g) 0 ∅ 0)) fun g _ => og_sent m c 8 g (by omega)]
  simp only [big4 (F := F)]
  iintro ⟨#HC, HO, Hbar, HKV, ⟨S0, S1, S2, S3⟩, ⟨R0, R1, R2, R3⟩⟩ Hk
  iapply (op_wait2 m K c 0 _ _ rfl _ _) $$ [S0 HO]
  · isplitr; · iexact HC
    isplitl [S0]; · iexact S0
    iexact HO
  iintro D0 HO
  iapply (op_wait3 m K c 0 _ _ rfl _ _) $$ [R0 HO]
  · isplitr; · iexact HC
    isplitl [R0]; · iexact R0
    iexact HO
  iintro E0 HO
  iapply (op_wait2 m K c 1 _ _ rfl _ _) $$ [S1 HO]
  · isplitr; · iexact HC
    isplitl [S1]; · iexact S1
    iexact HO
  iintro D1 HO
  iapply (op_wait3 m K c 1 _ _ rfl _ _) $$ [R1 HO]
  · isplitr; · iexact HC
    isplitl [R1]; · iexact R1
    iexact HO
  iintro E1 HO
  iapply (op_wait2 m K c 2 _ _ rfl _ _) $$ [S2 HO]
  · isplitr; · iexact HC
    isplitl [S2]; · iexact S2
    iexact HO
  iintro D2 HO
  iapply (op_wait3 m K c 2 _ _ rfl _ _) $$ [R2 HO]
  · isplitr; · iexact HC
    isplitl [R2]; · iexact R2
    iexact HO
  iintro E2 HO
  iapply (op_wait2 m K c 3 _ _ rfl _ _) $$ [S3 HO]
  · isplitr; · iexact HC
    isplitl [S3]; · iexact S3
    iexact HO
  iintro D3 HO
  iapply (op_wait3 m K c 3 _ _ rfl _ _) $$ [R3 HO]
  · isplitr; · iexact HC
    isplitl [R3]; · iexact R3
    iexact HO
  iintro E3 HO
  iapply Hk
  isplitl [HO]; · iexact HO
  isplitl [Hbar]; · iexact Hbar
  isplitl [HKV]; · iexact HKV
  isplitl [D0 D1 D2 D3]
  · isplitl [D0]; · iexact D0
    isplitl [D1]; · iexact D1
    isplitl [D2]; · iexact D2
    iexact D3
  isplitl [E0]; · iexact E0
  isplitl [E1]; · iexact E1
  isplitl [E2]; · iexact E2
  iexact E3

/-- One grid point of device `c`. -/
theorem body_run {Kt : PUnit → sProp 𝕄}
    (n : Fin 8) (hn : (i 0).val = n.val) (fq : Buf (Elt F) ((aq.access qR).loc (c : Thread nD τ))) (hread : (aq.access qR).read (Elt F) fq = rowQ (QA m c) n) (q : PosShare TreeShare) :
    iprop(ctx m K c ∗ sPts m c ∗ In m n.val c ∗ ((aq.access qR).loc (c : Thread nD τ) ↦[Finset.univ]{q} fq))
      ⊢ iprop((sPts m c -∗ ((aq.access qR).loc (c : Thread nD τ) ↦[Finset.univ]{q} fq) -∗ Nx m n.val c -∗ Kt ⟨⟩) -∗
      WP c (cc0__body (F := F) i aq hq sM h2 oM h3 kvM h4 kvoM h5 cc0_scratch2 cc0_scratch3 cc0_scratch4 cc0_scratch5) Kt) := by
  rw [cc0__body_eq_skeleton]; unfold cc0__body_skel
  iintro ⟨#HC, HS, HI, Hq⟩ Hk
  iapply op_bind
  iapply (part6_run m K c i aq hq h2 h3 h4 h5 n hn fq hread q) $$ [HS HI Hq]
  · isplitr; · iexact HC
    isplitl [HS]; · iexact HS
    isplitl [HI]; · iexact HI
    iexact Hq
  iintro %a %v5 %v7 %v8 HS HI Hq
  have e4 : k0_off4 i c = ![8 * (c.val / 2) + n.val, 0, 0] := by rw [k0_off4_eq, hn]
  rw [k0_part7_eq_skeleton]; unfold k0_part7_skel
  unfold Nx
  by_cases hc3 : k0_cond3 i = 1#1
  · have hpar : n.val % 2 = 1 := by rw [← hn]; exact (cond3_iff i).mp hc3
    simp only [Prog.lift, Prog.bind_op, Prog.bind_ret, Prog.pure_eq_ret, Prog.bind_assoc, hc3, dif_pos]
    iapply (odd_run m K c n hpar (n.val + 1) (k0_off4 i c) (k0_off4_inb i c) e4 _ rfl (k0_off6 i c) (k0_off6_inb i c hc3)
      (by rw [off6_eq, hn]) ⟨k0_dev7 c, k0_dev7_lt i c hc3⟩ (dev7 c _) (k0_off5 i) (k0_off5 i) (k0_off5_inb i hc3) (k0_off5_inb i hc3)
      (by rw [off5_eq, hn]) (by rw [off5_eq, hn]) _ _) $$ [HI]
    · isplitr; · iexact HC
      iexact HI
    iintro HI
    by_cases hc4 : k0_cond4 i = 1#1
    · have h7 : n.val = 7 := by rw [← hn]; exact (cond4_iff i).mp hc4
      simp only [hc4, dif_pos, h7, if_true]
      rw [k0_part4_eq_skeleton]; unfold k0_part4_skel
      rw [k0_part5_eq_skeleton]; unfold k0_part5_skel
      simp only [Prog.lift, Prog.bind_op, Prog.bind_ret, Prog.pure_eq_ret, Prog.bind_assoc]
      iapply (fin_run m K c _ _ _ _ _ _ _ _) $$ [HI]
      · isplitr; · iexact HC
        iexact HI
      iintro HI
      iapply (op_ret c _)
      iapply Hk $$ HS Hq HI
    · have h7 : ¬ n.val = 7 := fun e => hc4 ((cond4_iff i).mpr (by rw [hn, e]))
      simp only [hc4, not_false_eq_true, dif_neg, h7, if_false]
      iapply (op_ret c _)
      iapply Hk $$ HS Hq HI
  · have hpar : n.val % 2 = 0 := by
      by_contra e; exact hc3 ((cond3_iff i).mpr (by rw [hn]; omega))
    have h7 : ¬ n.val = 7 := by omega
    have hc4 : ¬ k0_cond4 i = 1#1 := fun e => h7 (by rw [← hn]; exact (cond4_iff i).mp e)
    simp only [Prog.lift, Prog.bind_op, Prog.bind_ret, Prog.pure_eq_ret, Prog.bind_assoc, hc3, hc4, not_false_eq_true, dif_neg, h7, if_false]
    iapply (even_run m c n hpar (n.val + 1) (k0_off4 i c) (k0_off4_inb i c) e4 _ rfl) $$ HI
    iintro HI
    iapply (op_ret c _)
    iapply Hk $$ HS Hq HI

end Parts

end Cert.Proof.Att

end
-- ==== Proof.Loop.lean ====
module

public import proofs.«01_k».proof.Proof.Point
public import proofs.«01_k».proof.Proof.Gen.KernelIdeal.Points

/-! The pipeline of the grid: its iterations, its transfers, and the call of the body. -/

@[expose] public section

noncomputable section

namespace Cert.Proof.Att

open Cert.KernelIdeal Cert.KernelIdeal.Gen
open Idealize.ShloMosaic Idealize.ShloMosaic.TcCoe Idealize.ShloMosaic.Rounds Idealize.ShloMosaic.Pipeline Idealize.ShloMosaic.Transfers
open Idealize.SL Idealize.SL.RA Idealize.SL.BI
open scoped Idealize.SL.BI
open Idealize.SL.BI.BIBase Idealize.SL.BI.Laws Idealize.SL.Sem Idealize.SL.ProofMode

variable {F : FTy → Type} [FloatOps F]

local notation "𝕄" => MT nD τ sig Unit (Elt F) ℕ UU ℕ

/-- The programs of `@main`'s processors. -/
abbrev Ext (F : FTy → Type) [FloatOps F] := TpuEff nD τ sig (Elt F) (Pipeline.Sig Λ₀ (Fin 1) fun p => (pcfgs (F := F) p).Adm) Proc.tc
/-- The one choice of prefetched tables: none. -/
abbrev adm0 : (pcfgs (F := F) 0).Adm := cfg0.toPCfg_adm
abbrev VL : Variants := (𝒱₀).lift
/-- What device `c`'s program does, at the level of `@main`. -/
abbrev WD {α : Type} (c : Dev nD) (bd : Option VL.V) (p : Prog (Ext F) α) (Q : α → sProp 𝕄) : sProp 𝕄 :=
  wp frame (wpE (Pipeline.defs (pcfgs (F := F)) (defs₀ (F := F))) VL (c : Thread nD τ) bd) Set.univ p Q

/-! ## The iterations -/

abbrev iter (ℓ : ℕ) : Prog (Ext F) PUnit := cfg0.iter (nD := nD) (τ := τ) (Val := Elt F) (A := fun p : Fin 1 => (pcfgs (F := F) p).Adm) (0 : Fin 1) adm0 ℓ
/-- The next iteration. -/
abbrev next (ℓ : ℕ) : Prog (Ext F) PUnit := .op (.call (Pipeline.pipe 0) (adm0 (F := F), (ℓ : ℕ))) fun _ => .ret ⟨⟩
/-- The body at a point, then `k`. -/
abbrev callBody (u : Fin cfg0.N) (k : Prog (Ext F) PUnit) : Prog (Ext F) PUnit := .op (.call (Pipeline.kernel cfg0.body) (cfg0.bodyArgs u (cfg0.slots u))) fun _ => k
/-- A middle iteration: fetch the next query block, await the present one, run the body. -/
abbrev mid (u u' : Fin cfg0.N) (ℓ : ℕ) : Prog (Ext F) PUnit :=
  .op (cfg0.startIn 0 u') fun _ => .op (cfg0.waitIn 0 u) fun _ => callBody u (next ℓ)

theorem prun_eq : Pipeline.prun (nD := nD) (τ := τ) (pcfgs (F := F)) (0 : Fin 1) = .op (.assume True instDecidableTrue) fun _ => .op (.call (Pipeline.pipe 0) (adm0 (F := F), (0 : ℕ))) fun _ => .ret ⟨⟩ := rfl
theorem iter0 : iter (F := F) 0 = .op (cfg0.startIn 0 t0_0) fun _ => next 1 := rfl
theorem iter1 : iter (F := F) 1 = .op (cfg0.startIn 1 t0_0) fun _ => .op (cfg0.startIn 0 t0_1) fun _ => .op (cfg0.waitIn 0 t0_0) fun _ => .op (cfg0.waitIn 1 t0_0) fun _ => callBody t0_0 (next 2) := rfl
theorem iter2 : iter (F := F) 2 = mid t0_1 t0_2 3 := rfl
theorem iter3 : iter (F := F) 3 = mid t0_2 t0_3 4 := rfl
theorem iter4 : iter (F := F) 4 = mid t0_3 t0_4 5 := rfl
theorem iter5 : iter (F := F) 5 = mid t0_4 t0_5 6 := rfl
theorem iter6 : iter (F := F) 6 = mid t0_5 t0_6 7 := rfl
theorem iter7 : iter (F := F) 7 = mid t0_6 t0_7 8 := rfl
theorem iter8 : iter (F := F) 8 = .op (cfg0.waitIn 0 t0_7) fun _ => callBody t0_7 (.op (cfg0.startOut 2 t0_7) fun _ => .op (cfg0.waitOut 2 t0_7) fun _ => next 9) := rfl
theorem iter9 : iter (F := F) 9 = .ret ⟨⟩ := rfl

theorem slots0 : ∀ t : Fin cfg0.N, (cfg0.slots t 0).val = t.val % 2 := by decide +kernel

/-! ## What a fetch brings -/

theorem fetch_read (c : Dev nD) (t : Fin cfg0.N) (s : Fin (cfg0.win 0).nbuf) (fd : Buf (Elt F) ((win0_0.stage s).view.loc (c : Thread nD τ)))
   (X : S1x1024x128.Idx → Elt F .f32) :
   (((win0_0.stage s).access qR).read (Elt F) ((win0_0.stg t s).view.write (Elt F) fd X Finset.univ)) = X := by
  have e : ∀ j : S1x1024x128.Idx, ((win0_0.stage s).access qR).emb j = (win0_0.stg t s).view.emb j := fun j => by
    refine congrArg (win0_0.stage s).view.emb (funext fun a => Fin.ext ?_)
    exact (ValueKit.rect_emb_unit_val (s := S1x1024x128) _ _ _ j a).trans ((congrArg (· + (j a).val) (by match a with | ⟨0, _⟩ => rfl | ⟨1, _⟩ => rfl | ⟨2, _⟩ => rfl)).trans (ValueKit.rect_emb_unit_val (s := S1x1024x128) (fun _ => 0) _ _ j a).symm)
  have h2 : (win0_0.stg t s).view.read (Elt F) ((win0_0.stg t s).view.write (Elt F) fd X Finset.univ) = X := View.read_write_univ _ _
  funext j
  refine Eq.trans ?_ (congrFun h2 j)
  unfold View.read
  rw [e j]
theorem idx0 : ∀ t : Fin cfg0.N, win0_0.index t = ![t.val, 0, 0] := by decide +kernel
theorem blk_read0 (t : Fin cfg0.N) (f : S8x1024x128.Idx → Elt F .f32) (n : Fin 8) (h : t.val = n.val) :
   (win0_0.blk t).view.read (Elt F) f = rowQ f n := by
  funext j
  refine congrArg f (funext fun a => Fin.ext ?_)
  refine (Window.rect_emb_val win0_0 t j a).trans ?_
  rw [idx0 t]
  have h0 : (j 0).val < 1 := (j 0).isLt
  match a with
  | ⟨0, _⟩ => exact (show t.val * 1 + (j 0).val = n.val by omega)
  | ⟨1, _⟩ => exact (show 0 * 1024 + (j 1).val = (j 1).val by omega)
  | ⟨2, _⟩ => exact (show 0 * 128 + (j 2).val = (j 2).val by omega)

/-! ## The transfers of the pipeline -/

theorem credit0_pos : ∀ (t : Fin cfg0.N) (s : Fin (cfg0.win 0).nbuf), 0 < (win0_0.stg t s).view.dmaCredit := by decide +kernel

theorem lv_q (c : Dev nD) : ∀ s : Fin (cfg0.win 0).nbuf, lv ((c : Thread nD τ), .dma (win0_0.sem s)) () ≤ 0 := by revert c; decide +kernel

variable (m : (ℓ : Loc nD τ sig) → Buf (Elt F) ℓ) (c : Dev nD)

/-- The queries in memory, at a share. -/
abbrev qSrc (q : PosShare TreeShare) : sProp 𝕄 := ((c : Thread nD τ).loc main_v11) ↦[Finset.univ]{q} (QA m c)
/-- A query buffer at rest: any contents, its semaphore at zero, and a share of the queries. -/
def SB (s : Fin (cfg0.win 0).nbuf) (q : PosShare TreeShare) : sProp 𝕄 :=
  iprop((∃ f : Buf (Elt F) ((win0_0.stage s).view.loc (c : Thread nD τ)), (win0_0.stage s).view.loc (c : Thread nD τ) ↦[Finset.univ]{fullShare} f)
    ∗ semVal ((c : Thread nD τ), .dma (win0_0.sem s)) 0 ∗ qSrc m c q)
/-- A query buffer holding point `n`'s block. -/
def SH (n : Fin 8) (s : Fin (cfg0.win 0).nbuf) (q : PosShare TreeShare) : sProp 𝕄 :=
  iprop((∃ f : Buf (Elt F) ((win0_0.stage s).view.loc (c : Thread nD τ)), ⌜((win0_0.stage s).access qR).read (Elt F) f = rowQ (QA m c) n⌝ ∗ (win0_0.stage s).view.loc (c : Thread nD τ) ↦[Finset.univ]{fullShare} f)
    ∗ semVal ((c : Thread nD τ), .dma (win0_0.sem s)) 0 ∗ qSrc m c q)
/-- A query buffer being filled for point `t`. -/
def SF (t : Fin cfg0.N) (s : Fin (cfg0.win 0).nbuf) (q : PosShare TreeShare) : sProp 𝕄 :=
  iprop(∃ fd : Buf (Elt F) ((win0_0.stage s).view.loc (c : Thread nD τ)),
    Flight EC (c : Thread nD τ) (.dma (win0_0.sem s)) () (win0_0.stg t s).view.dmaCredit
      iprop(((win0_0.stg t s).view.loc (c : Thread nD τ) ↦[Finset.univ]{fullShare} ((win0_0.stg t s).view.write (Elt F) fd ((win0_0.blk t).view.read (Elt F) (QA m c)) Finset.univ))
        ∗ ((win0_0.blk t).view.loc (c : Thread nD τ) ↦[(win0_0.blk t).view.set]{q} (QA m c)))
    ∗ ((win0_0.blk t).view.loc (c : Thread nD τ) ↦[Finset.univ \ (win0_0.blk t).view.set]{q} (QA m c)))

theorem op_startQ {α : Type} {Q : α → sProp 𝕄} (bd : Option VL.V) (t : Fin cfg0.N) (q : PosShare TreeShare) {k : PUnit → Prog (Ext F) α} :
    SB m c (cfg0.slots t 0) q ⊢ iprop((SF m c t (cfg0.slots t 0) q -∗ WD c bd (k ⟨⟩) Q) -∗ WD c bd (.op (cfg0.startIn 0 t) k) Q) := by
  unfold SB qSrc
  iintro ⟨⟨%f, Hf⟩, Hs, Hq⟩ Hk
  ihave Hq := (pointsTo_split_subset (Finset.subset_univ (win0_0.blk t).view.set)).1 $$ Hq
  icases Hq with ⟨Hq, Hr⟩
  iapply (wp_dmaLocal EC VL (c : Thread nD τ) bd (src := win0_0.blk t) (dst := win0_0.stg t (cfg0.slots t 0)) (q := q) (fs := QA m c) (fd := f) ()
    ((win0_0.stg t (cfg0.slots t 0)).view.dmaCredit) rfl (credit0_pos t _) (Finset.subset_univ _)) $$ [Hf Hq Hs]
  · isplitl [Hq]; · iexact Hq
    isplitl [Hf]; · iexact Hf
    iexact Hs
  iintro HF
  iapply Hk
  unfold SF
  iexists f
  isplitl [HF]; · iexact HF
  iexact Hr

theorem op_waitQ {α : Type} {Q : α → sProp 𝕄} (bd : Option VL.V) (t : Fin cfg0.N) (n : Fin 8) (hn : t.val = n.val) (q : PosShare TreeShare) (O : CellTallies nD τ sig Unit) (hO : Above 0 O) (W : Waits sig Unit)
    {k : PUnit → Prog (Ext F) α} :
    iprop(SF m c t (cfg0.slots t 0) q ∗ owes (c : Thread nD τ) O W ∗ levAts L lv)
      ⊢ iprop((SH m c n (cfg0.slots t 0) q -∗ (∃ W, owes (c : Thread nD τ) O W) -∗ WD c bd (k ⟨⟩) Q) -∗ WD c bd (.op (cfg0.waitIn 0 t) k) Q) := by
  unfold SF
  iintro ⟨⟨%fd, HF, Hr⟩, HO, #HL⟩ Hk
  iapply (wp_waitLocalO EC VL (c : Thread nD τ) bd (srcw := win0_0.blk t) (dstw := win0_0.stg t (cfg0.slots t 0)) (hsrc := (cfg0.win 0).wordExact_blk t) (hdst := (cfg0.win 0).wordExact_stg t _) () rfl) $$ [HF HO]
  · isplitl [HF]; · iexact HF
    isplitl [HO]; · iexact HO
    iapply (mayWait hO c (.dma (win0_0.sem (cfg0.slots t 0))) (lv_q c (cfg0.slots t 0))) $$ HL
  iintro ⟨⟨Hd, Hq⟩, Hs, HO⟩
  iapply Hk $$ [Hd Hq Hr Hs] [HO]
  · unfold SH qSrc
    isplitl [Hd]
    · iexists _
      isplitr [Hd]
      rotate_left
      · iexact Hd
      ipureintro
      rw [blk_read0 t (QA m c) n hn]
      exact fetch_read c t _ fd _
    isplitl [Hs]; · iexact Hs
    iapply (pointsTo_split_subset (Finset.subset_univ (win0_0.blk t).view.set)).2
    isplitl [Hq] <;> iassumption
  iexists _; iexact HO

theorem SH_SB (n : Fin 8) (s : Fin (cfg0.win 0).nbuf) (q : PosShare TreeShare) : SH m c n s q ⊢ SB m c s q := by
  unfold SH SB
  iintro ⟨⟨%f, -, H⟩, Hs, Hq⟩
  isplitl [H]; · iexists f; iexact H
  isplitl [Hs] <;> iassumption

/-! ### The keys and values, and the result -/

theorem idx1 : ∀ t : Fin cfg0.N, win0_1.index t = ![0, 0, 0] := by decide +kernel
theorem idx2 : ∀ t : Fin cfg0.N, win0_2.index t = ![0, 0, 0] := by decide +kernel
theorem stg_emb1 (t : Fin cfg0.N) (j : S1024x8x256.Idx) : (win0_1.stg t 0).view.emb j = j := by
  funext a; refine Fin.ext ?_
  exact (ValueKit.rect_emb_unit_val (s := S1024x8x256) (fun _ => 0) _ _ j a).trans (Nat.zero_add _)
theorem stg_emb2 (t : Fin cfg0.N) (j : S16x1024x128.Idx) : (win0_2.stg t 0).view.emb j = j := by
  funext a; refine Fin.ext ?_
  exact (ValueKit.rect_emb_unit_val (s := S16x1024x128) (fun _ => 0) _ _ j a).trans (Nat.zero_add _)
theorem blk_emb1 (t : Fin cfg0.N) (j : S1024x8x256.Idx) : (win0_1.blk t).view.emb j = j := by
  funext a; refine Fin.ext ?_
  refine (Window.rect_emb_val win0_1 t j a).trans ?_
  rw [idx1 t]
  match a with
  | ⟨0, _⟩ => exact (show 0 * 1024 + (j 0).val = (j 0).val by omega)
  | ⟨1, _⟩ => exact (show 0 * 8 + (j 1).val = (j 1).val by omega)
  | ⟨2, _⟩ => exact (show 0 * 256 + (j 2).val = (j 2).val by omega)
theorem blk_emb2 (t : Fin cfg0.N) (j : S16x1024x128.Idx) : (win0_2.blk t).view.emb j = j := by
  funext a; refine Fin.ext ?_
  refine (Window.rect_emb_val win0_2 t j a).trans ?_
  rw [idx2 t]
  match a with
  | ⟨0, _⟩ => exact (show 0 * 16 + (j 0).val = (j 0).val by omega)
  | ⟨1, _⟩ => exact (show 0 * 1024 + (j 1).val = (j 1).val by omega)
  | ⟨2, _⟩ => exact (show 0 * 128 + (j 2).val = (j 2).val by omega)
theorem in_write1 (t : Fin cfg0.N) (fd X : S1024x8x256.Idx → Elt F .bf16) :
    (win0_1.stg t 0).view.write (Elt F) fd ((win0_1.blk t).view.read (Elt F) X) Finset.univ = X := by
  funext j
  have h := View.write_emb_of_mem (v := (win0_1.stg t 0).view) (Val := Elt F) fd ((win0_1.blk t).view.read (Elt F) X) (Finset.mem_univ j)
  rw [stg_emb1 t j] at h
  exact h.trans (congrArg X (blk_emb1 t j))
theorem out_write2 (t : Fin cfg0.N) (fd X : S16x1024x128.Idx → Elt F .bf16) :
    (win0_2.blk t).view.write (Elt F) fd ((win0_2.stg t 0).view.read (Elt F) X) Finset.univ = X := by
  funext j
  have h := View.write_emb_of_mem (v := (win0_2.blk t).view) (Val := Elt F) fd ((win0_2.stg t 0).view.read (Elt F) X) (Finset.mem_univ j)
  rw [blk_emb2 t j] at h
  exact h.trans (congrArg X (stg_emb2 t j))
theorem credit1_pos : ∀ (t : Fin cfg0.N), 0 < (win0_1.stg t 0).view.dmaCredit := by decide +kernel
theorem credit2_pos : ∀ (t : Fin cfg0.N), 0 < (win0_2.blk t).view.dmaCredit := by decide +kernel
theorem blk_set1 (t : Fin cfg0.N) : (win0_1.blk t).view.set = (Finset.univ : Finset S1024x8x256.Idx) := by
  ext j
  exact ⟨fun _ => Finset.mem_univ _, fun _ => by have h := View.emb_mem_set (win0_1.blk t).view j; rw [blk_emb1 t j] at h; exact h⟩
theorem stg_set2 (t : Fin cfg0.N) : (win0_2.stg t 0).view.set = (Finset.univ : Finset S16x1024x128.Idx) := by
  ext j
  exact ⟨fun _ => Finset.mem_univ _, fun _ => by have h := View.emb_mem_set (win0_2.stg t 0).view j; rw [stg_emb2 t j] at h; exact h⟩
theorem lv_s (c : Dev nD) : lv ((c : Thread nD τ), .dma (win0_1.sem 0)) () ≤ 0 := by revert c; decide +kernel
theorem lv_o (c : Dev nD) : lv ((c : Thread nD τ), .dma (win0_2.sem 0)) () ≤ 0 := by revert c; decide +kernel

/-- The keys and values in memory. -/
abbrev sSrc : sProp 𝕄 := ((c : Thread nD τ).loc main_v23) ↦[Finset.univ]{fullShare} (SA m c)
/-- The result in memory, at contents `f`. -/
abbrev oDst (f : S16x1024x128.Idx → Elt F .bf16) : sProp 𝕄 := ((c : Thread nD τ).loc main_v24) ↦[Finset.univ]{fullShare} f
abbrev sSem : sProp 𝕄 := semVal ((c : Thread nD τ), .dma (win0_1.sem 0)) 0
abbrev oSem : sProp 𝕄 := semVal ((c : Thread nD τ), .dma (win0_2.sem 0)) 0
/-- The keys' and values' buffer being filled. -/
def SFl (t : Fin cfg0.N) : sProp 𝕄 :=
  Flight EC (c : Thread nD τ) (.dma (win0_1.sem 0)) () (win0_1.stg t 0).view.dmaCredit iprop(sPts m c ∗ sSrc m c)
/-- The result being written back. -/
def OFl (t : Fin cfg0.N) : sProp 𝕄 :=
  Flight EC (c : Thread nD τ) (.dma (win0_2.sem 0)) () (win0_2.blk t).view.dmaCredit
    iprop(oDst c (OUT m c) ∗ oM.view.loc (c : Thread nD τ) ↦[Finset.univ]{fullShare} OUT m c)

/-- The fetch of the keys and values, its wait, the write-back of the result, and its wait. -/
def startS (t : Fin cfg0.N) : TpuEff nD τ sig (Elt F) (Pipeline.Sig Λ₀ (Fin 1) fun p => (pcfgs (F := F) p).Adm) Proc.tc PUnit :=
  .enqueueDma (win0_1.blk t) (.here (win0_1.stg t 0)) (.dma (win0_1.sem 0)) ((cfg0.win 1).wordExact_blk t) ((cfg0.win 1).wordExact_stg t _) ⟨Or.inl rfl, trivial⟩
def waitS (t : Fin cfg0.N) : TpuEff nD τ sig (Elt F) (Pipeline.Sig Λ₀ (Fin 1) fun p => (pcfgs (F := F) p).Adm) Proc.tc PUnit :=
  .waitDma2 (win0_1.sem 0) (win0_1.blk t) (win0_1.stg t 0) ((cfg0.win 1).wordExact_blk t) ((cfg0.win 1).wordExact_stg t _)
def startO (t : Fin cfg0.N) : TpuEff nD τ sig (Elt F) (Pipeline.Sig Λ₀ (Fin 1) fun p => (pcfgs (F := F) p).Adm) Proc.tc PUnit :=
  .enqueueDma (win0_2.stg t 0) (.here (win0_2.blk t)) (.dma (win0_2.sem 0)) ((cfg0.win 2).wordExact_stg t _) ((cfg0.win 2).wordExact_blk t) ⟨Or.inl rfl, trivial⟩
def waitO (t : Fin cfg0.N) : TpuEff nD τ sig (Elt F) (Pipeline.Sig Λ₀ (Fin 1) fun p => (pcfgs (F := F) p).Adm) Proc.tc PUnit :=
  .waitDma2 (win0_2.sem 0) (win0_2.stg t 0) (win0_2.blk t) ((cfg0.win 2).wordExact_stg t _) ((cfg0.win 2).wordExact_blk t)
theorem startS_eq : (cfg0.startIn 1 t0_0 : TpuEff nD τ sig (Elt F) (Pipeline.Sig Λ₀ (Fin 1) fun p => (pcfgs (F := F) p).Adm) Proc.tc PUnit) = startS t0_0 := rfl
theorem waitS_eq : (cfg0.waitIn 1 t0_0 : TpuEff nD τ sig (Elt F) (Pipeline.Sig Λ₀ (Fin 1) fun p => (pcfgs (F := F) p).Adm) Proc.tc PUnit) = waitS t0_0 := rfl
theorem startO_eq : (cfg0.startOut 2 t0_7 : TpuEff nD τ sig (Elt F) (Pipeline.Sig Λ₀ (Fin 1) fun p => (pcfgs (F := F) p).Adm) Proc.tc PUnit) = startO t0_7 := rfl
theorem waitO_eq : (cfg0.waitOut 2 t0_7 : TpuEff nD τ sig (Elt F) (Pipeline.Sig Λ₀ (Fin 1) fun p => (pcfgs (F := F) p).Adm) Proc.tc PUnit) = waitO t0_7 := rfl

theorem op_startS {α : Type} {Q : α → sProp 𝕄} (bd : Option VL.V) (t : Fin cfg0.N) (f : S1024x8x256.Idx → Elt F .bf16) {k : PUnit → Prog (Ext F) α} :
    iprop((sM.view.loc (c : Thread nD τ) ↦[Finset.univ]{fullShare} f) ∗ sSem c ∗ sSrc m c)
      ⊢ iprop((SFl m c t -∗ WD c bd (k ⟨⟩) Q) -∗ WD c bd (.op (startS t) k) Q) := by
  unfold startS
  iintro ⟨Hf, Hs, Hq⟩ Hk
  iapply (wp_dmaLocal EC VL (c : Thread nD τ) bd (src := win0_1.blk t) (dst := win0_1.stg t 0) (q := fullShare) (fs := SA m c) (fd := f) ()
    ((win0_1.stg t 0).view.dmaCredit) rfl (credit1_pos t) (Finset.subset_univ _)) $$ [Hf Hs Hq]
  · isplitl [Hq]
    · iapply (Entails.of_eq (congrArg (fun S => ((c : Thread nD τ).loc main_v23 ↦[S]{fullShare} (SA m c) : sProp 𝕄)) (blk_set1 t).symm)) $$ Hq
    isplitl [Hf]; · iexact Hf
    iexact Hs
  iintro HF
  iapply Hk
  unfold SFl
  iapply (Entails.of_eq (congrArg₂ (fun (X : S1024x8x256.Idx → Elt F .bf16) (S : Finset S1024x8x256.Idx) => (Flight EC (c : Thread nD τ) (.dma (win0_1.sem 0)) () (win0_1.stg t 0).view.dmaCredit
    iprop((sM.view.loc (c : Thread nD τ) ↦[Finset.univ]{fullShare} X) ∗ ((c : Thread nD τ).loc main_v23 ↦[S]{fullShare} (SA m c))) : sProp 𝕄)) (in_write1 t f (SA m c)) (blk_set1 t))) $$ HF

theorem op_waitS {α : Type} {Q : α → sProp 𝕄} (bd : Option VL.V) (t : Fin cfg0.N) (O : CellTallies nD τ sig Unit) (hO : Above 0 O) (W : Waits sig Unit)
    {k : PUnit → Prog (Ext F) α} :
    iprop(SFl m c t ∗ owes (c : Thread nD τ) O W ∗ levAts L lv)
      ⊢ iprop((sPts m c -∗ sSem c -∗ sSrc m c -∗ (∃ W, owes (c : Thread nD τ) O W) -∗ WD c bd (k ⟨⟩) Q) -∗ WD c bd (.op (waitS t) k) Q) := by
  unfold waitS SFl
  iintro ⟨HF, HO, #HL⟩ Hk
  iapply (wp_waitLocalO EC VL (c : Thread nD τ) bd (srcw := win0_1.blk t) (dstw := win0_1.stg t 0) (hsrc := (cfg0.win 1).wordExact_blk t) (hdst := (cfg0.win 1).wordExact_stg t _) () rfl) $$ [HF HO]
  · isplitl [HF]; · iexact HF
    isplitl [HO]; · iexact HO
    iapply (mayWait hO c (.dma (win0_1.sem 0)) (lv_s c)) $$ HL
  iintro ⟨⟨Hd, Hq⟩, Hs, HO⟩
  iapply Hk $$ Hd Hs Hq [HO]
  iexists _; iexact HO

theorem op_startO {α : Type} {Q : α → sProp 𝕄} (bd : Option VL.V) (t : Fin cfg0.N) (f : S16x1024x128.Idx → Elt F .bf16) {k : PUnit → Prog (Ext F) α} :
    iprop((oM.view.loc (c : Thread nD τ) ↦[Finset.univ]{fullShare} OUT m c) ∗ oSem c ∗ oDst c f)
      ⊢ iprop((OFl m c t -∗ WD c bd (k ⟨⟩) Q) -∗ WD c bd (.op (startO t) k) Q) := by
  unfold startO
  iintro ⟨Hf, Hs, Hq⟩ Hk
  iapply (wp_dmaLocal EC VL (c : Thread nD τ) bd (src := win0_2.stg t 0) (dst := win0_2.blk t) (q := fullShare) (fs := OUT m c) (fd := f) ()
    ((win0_2.blk t).view.dmaCredit) rfl (credit2_pos t) (Finset.subset_univ _)) $$ [Hf Hs Hq]
  · isplitl [Hf]
    · iapply (Entails.of_eq (congrArg (fun S => (oM.view.loc (c : Thread nD τ) ↦[S]{fullShare} (OUT m c) : sProp 𝕄)) (stg_set2 t).symm)) $$ Hf
    isplitl [Hq]; · iexact Hq
    iexact Hs
  iintro HF
  iapply Hk
  unfold OFl
  iapply (Entails.of_eq (congrArg₂ (fun (X : S16x1024x128.Idx → Elt F .bf16) (S : Finset S16x1024x128.Idx) => (Flight EC (c : Thread nD τ) (.dma (win0_2.sem 0)) () (win0_2.blk t).view.dmaCredit
    iprop(((c : Thread nD τ).loc main_v24 ↦[Finset.univ]{fullShare} X) ∗ (oM.view.loc (c : Thread nD τ) ↦[S]{fullShare} (OUT m c))) : sProp 𝕄)) (out_write2 t f (OUT m c)) (stg_set2 t))) $$ HF

theorem op_waitO {α : Type} {Q : α → sProp 𝕄} (bd : Option VL.V) (t : Fin cfg0.N) (O : CellTallies nD τ sig Unit) (hO : Above 0 O) (W : Waits sig Unit)
    {k : PUnit → Prog (Ext F) α} :
    iprop(OFl m c t ∗ owes (c : Thread nD τ) O W ∗ levAts L lv)
      ⊢ iprop((oDst c (OUT m c) -∗ (oM.view.loc (c : Thread nD τ) ↦[Finset.univ]{fullShare} OUT m c) -∗ oSem c -∗ (∃ W, owes (c : Thread nD τ) O W) -∗ WD c bd (k ⟨⟩) Q) -∗ WD c bd (.op (waitO t) k) Q) := by
  unfold waitO OFl
  iintro ⟨HF, HO, #HL⟩ Hk
  iapply (wp_waitLocalO EC VL (c : Thread nD τ) bd (srcw := win0_2.stg t 0) (dstw := win0_2.blk t) (hsrc := (cfg0.win 2).wordExact_stg t _) (hdst := (cfg0.win 2).wordExact_blk t) () rfl) $$ [HF HO]
  · isplitl [HF]; · iexact HF
    isplitl [HO]; · iexact HO
    iapply (mayWait hO c (.dma (win0_2.sem 0)) (lv_o c)) $$ HL
  iintro ⟨⟨Hd, Hq⟩, Hs, HO⟩
  iapply Hk $$ Hd Hq Hs [HO]
  iexists _; iexact HO

/-! ### The call of the body -/

theorem body_eq (t : Fin cfg0.N) : ∃ hq h2 h3 h4 h5, (defs₀ (F := F)) .tc cfg0.body (cfg0.bodyArgs t (cfg0.slots t))
    = cc0__body (grid0.coords t) (win0_0.stage (cfg0.slots t 0)) hq sM h2 oM h3 kvM h4 kvoM h5 cc0_scratch2 cc0_scratch3 cc0_scratch4 cc0_scratch5 := by
  have key : ∀ (z1 : Fin 1) (z2 : Fin 1), ∃ hq h2 h3 h4 h5, cc0__body (F := F) (grid0.coords t) (win0_0.stage (cfg0.slots t 0)) (hstage0_0 ((cfg0.slots t 0).cast nbuf0_0)) (win0_1.stage z1) (hstage0_1 (z1.cast nbuf0_1)) (win0_2.stage z2) (hstage0_2 (z2.cast nbuf0_2)) (Memref.whole cc0_scratch0) (Memref.isWhole_whole _) (Memref.whole cc0_scratch1) (Memref.isWhole_whole _) cc0_scratch2 cc0_scratch3 cc0_scratch4 cc0_scratch5
      = cc0__body (grid0.coords t) (win0_0.stage (cfg0.slots t 0)) hq sM h2 oM h3 kvM h4 kvoM h5 cc0_scratch2 cc0_scratch3 cc0_scratch4 cc0_scratch5 := by
    intro z1 z2
    match z1, z2 with
    | ⟨0, _⟩, ⟨0, _⟩ => exact ⟨_, _, _, _, _, rfl⟩
  exact key (cfg0.slots t 1) (cfg0.slots t 2)

theorem coords0 : ∀ t : Fin cfg0.N, (grid0.coords t 0).val = t.val := by decide +kernel

theorem op_body {Q : PUnit → sProp 𝕄} (K : CellIx → ℕ) (v : VL.V) (hv : VL.lt (Sum.inl none) v) (t : Fin cfg0.N) (n : Fin 8) (hn : t.val = n.val) (q : PosShare TreeShare)
    {k : Prog (Ext F) PUnit} :
    iprop(ctx m K c ∗ sPts m c ∗ In m n.val c ∗ SH m c n (cfg0.slots t 0) q)
      ⊢ iprop((sPts m c -∗ SH m c n (cfg0.slots t 0) q -∗ Nx m n.val c -∗ WD c (some v) k Q) -∗ WD c (some v) (callBody t k) Q) := by
  unfold SH
  iintro ⟨#HC, Hs, HI, ⟨⟨%f, %hf, Hf⟩, Hsm, Hq⟩⟩ Hk
  obtain ⟨hq, h2, h3, h4, h5, hb⟩ := body_eq (F := F) t
  unfold callBody
  iapply (wp_call VL (c : Thread nD τ) (some v) Set.univ (Q := Q) (ℓ := Pipeline.kernel cfg0.body) (a := cfg0.bodyArgs t (cfg0.slots t)) (Sum.inl none)
    (fun w hw => (Option.mem_some_iff.1 hw) ▸ hv))
  iapply (show wp frame (wpE (Pipeline.defs pcfgs (defs₀ (F := F))) VL (c : Thread nD τ) (some (.inl none))) Set.univ
        (liftProg (((defs₀ (F := F)) .tc cfg0.body (cfg0.bodyArgs t (cfg0.slots t))))) _
      ⊢ wp frame (wpE (Pipeline.defs pcfgs defs₀) VL (c : Thread nD τ) (some (.inl none))) Set.univ
        (Pipeline.defs pcfgs defs₀ .tc (Pipeline.kernel cfg0.body) (cfg0.bodyArgs t (cfg0.slots t))) _ from by rw [defs_kernel])
  iapply (wp_liftProg (Pipeline.defs pcfgs defs₀) (fun pr ℓ x => defs_kernel ..) 𝒱₀ (c : Thread nD τ) Set.univ none)
  iapply (Entails.of_eq (congrArg (fun p => WP c p _) hb.symm))
  iapply (body_run m K c (grid0.coords t) (win0_0.stage (cfg0.slots t 0)) hq h2 h3 h4 h5 n ((coords0 t).trans hn) f hf fullShare) $$ [Hs HI Hf]
  · isplitr; · iexact HC
    isplitl [Hs]; · iexact Hs
    isplitl [HI]; · iexact HI
    iexact Hf
  iintro Hs Hf HN
  iapply Hk $$ Hs [Hf Hsm Hq] HN
  isplitl [Hf]
  · iexists f
    isplitr [Hf]
    · ipureintro; exact hf
    iexact Hf
  isplitl [Hsm] <;> iassumption

/-! ### The iterations run -/

theorem op_next {Q : PUnit → sProp 𝕄} (ℓ a b : ℕ) (h : b < a) :
    WD c (some (Sum.inr b)) (iter (F := F) ℓ) Q ⊢ WD c (some (Sum.inr a)) (next ℓ) Q := by
  iintro H
  iapply (wp_call VL (c : Thread nD τ) (some (Sum.inr a)) Set.univ (Q := Q) (ℓ := Pipeline.pipe 0) (a := (adm0 (F := F), (ℓ : ℕ))) (Sum.inr b)
    (fun w hw => (Option.mem_some_iff.1 hw) ▸ Sum.Lex.inr h))
  iapply (wp_mono frame _ _ (Q := Q) fun x => (show Q x ⊢ wp frame _ Set.univ (.ret x) Q by rw [wp_ret]; iintro H; imodintro; iexact H))
  iexact H

theorem In_owes (n : ℕ) : In m n c ⊢ iprop(∃ O W, ⌜Above 0 O⌝ ∗ owes (c : Thread nD τ) O W ∗ ((∃ W, owes (c : Thread nD τ) O W) -∗ In m n c)) := by
  unfold In
  by_cases h : n = 0
  · rw [if_pos h]
    unfold St0 B0
    iintro ⟨⟨%W, HO, H⟩, H'⟩
    iexists _; iexists W
    isplitr [HO H H']
    · ipureintro; exact above_O₀ c
    isplitl [HO]; · iexact HO
    iintro ⟨%W', HO⟩
    isplitl [HO H]
    · iexists W'; isplitl [HO] <;> iassumption
    iexact H'
  · rw [if_neg h]
    unfold Stm
    iintro ⟨⟨%W, HO⟩, H'⟩
    iexists _; iexists W
    isplitr [HO H']
    · ipureintro; exact above_oweO c n 0 (by decide)
    isplitl [HO]; · iexact HO
    iintro HO
    isplitl [HO] <;> iassumption

/-- The share of the queries a query buffer's fetch reads at. -/
def qs (s : Fin (cfg0.win 0).nbuf) : PosShare TreeShare := if s.val = 0 then fullShare.left else fullShare.right
/-- What stays put between the first point and the last. -/
def Rst : sProp 𝕄 := iprop(sSem c ∗ sSrc m c ∗ oSem c ∗ ∃ f, oDst (F := F) c f)
/-- Between points: the next buffer at rest, this one's fetch under way. -/
def JJ (u : Fin cfg0.N) (s : Fin (cfg0.win 0).nbuf) (n : ℕ) : sProp 𝕄 :=
  iprop(SB m c s (qs s) ∗ SF m c u (cfg0.slots u 0) (qs (cfg0.slots u 0)) ∗ In m n c ∗ sPts m c ∗ Rst m c)
/-- After the last iteration. -/
def JF : sProp 𝕄 :=
  iprop(SB m c (cfg0.slots t0_0 0) (qs (cfg0.slots t0_0 0)) ∗ SB m c (cfg0.slots t0_1 0) (qs (cfg0.slots t0_1 0)) ∗ (∃ W, owes (c : Thread nD τ) (0 : CellTallies nD τ sig Unit) W)
    ∗ atPos ER (barCell c) 1 ∅ 0 ∗ bigSep Finset.univ (KVg m 8 c)
    ∗ (bigSep Finset.univ fun g : Fin 4 => atPos ER (dCell c 2 g) 1 ∅ 0) ∗ (bigSep Finset.univ fun g : Fin 4 => atPos ER (dCell c 3 g) 1 ∅ 0)
    ∗ (oM.view.loc (c : Thread nD τ) ↦[Finset.univ]{fullShare} OUT m c)
    ∗ sPts m c ∗ sSem c ∗ sSrc m c ∗ oSem c ∗ oDst c (OUT m c))

/-- A fetch awaited. -/
theorem op_waitQ' {α : Type} {Q : α → sProp 𝕄} (K : CellIx → ℕ) (bd : Option VL.V) (t : Fin cfg0.N) (n : Fin 8) (hn : t.val = n.val) (i : ℕ) (q : PosShare TreeShare)
    {k : PUnit → Prog (Ext F) α} :
    iprop(ctx m K c ∗ SF m c t (cfg0.slots t 0) q ∗ In m i c)
      ⊢ iprop((SH m c n (cfg0.slots t 0) q -∗ In m i c -∗ WD c bd (k ⟨⟩) Q) -∗ WD c bd (.op (cfg0.waitIn 0 t) k) Q) := by
  iintro ⟨#HC, HF, HI⟩ Hk
  ihave HI := In_owes m c i $$ HI
  icases HI with ⟨%O, %W, %hO, HO, HI⟩
  ihave #HL := ctx_lev m K c $$ HC
  iapply (op_waitQ m c bd t n hn q O hO W (Q := Q) (k := k)) $$ [HF HO]
  · isplitl [HF]; · iexact HF
    isplitl [HO]; · iexact HO
    iexact HL
  iintro HS HO
  iapply Hk $$ HS [HI HO]
  iapply HI $$ HO

theorem Nx_In (n : Fin 8) (h : n.val ≠ 7) : Nx m n.val c = In m (n.val + 1) c := by
  unfold Nx In; rw [if_neg h, if_neg (Nat.succ_ne_zero _)]

theorem mid_run {Q : PUnit → sProp 𝕄} (K : CellIx → ℕ) (a : ℕ) (u u' : Fin cfg0.N) (n : Fin 8) (hn : u.val = n.val) (h7 : n.val ≠ 7) (ℓ b : ℕ) (hb : b < a) :
    iprop(ctx m K c ∗ JJ m c u (cfg0.slots u' 0) n.val ∗ (JJ m c u' (cfg0.slots u 0) (n.val + 1) -∗ WD c (some (Sum.inr b)) (iter (F := F) ℓ) Q))
      ⊢ WD c (some (Sum.inr a)) (mid u u' ℓ) Q := by
  unfold JJ
  iintro ⟨#HC, ⟨HB, HF, HI, Hs, HR⟩, Hk⟩
  iapply (op_startQ m c (some (Sum.inr a)) u' _ (Q := Q)) $$ HB
  iintro HF'
  iapply (op_waitQ' m c K (some (Sum.inr a)) u n hn n.val _ (Q := Q)) $$ [HF HI]
  · isplitr; · iexact HC
    isplitl [HF] <;> iassumption
  iintro HH HI
  iapply (op_body m c K (Sum.inr a) (Sum.Lex.sep _ _) u n hn (qs (cfg0.slots u 0)) (Q := Q)) $$ [Hs HI HH]
  · isplitr; · iexact HC
    isplitl [Hs]; · iexact Hs
    isplitl [HI] <;> iassumption
  iintro Hs HH HN
  iapply (op_next c ℓ a b hb (Q := Q))
  iapply Hk
  isplitl [HH]; · iapply (SH_SB m c n _ _) $$ HH
  isplitl [HF']; · iexact HF'
  isplitl [HN]; · iapply (Entails.of_eq (Nx_In m c n h7)) $$ HN
  isplitl [Hs] <;> iassumption

end Cert.Proof.Att

end
-- ==== Proof.Iter.lean ====
module

public import proofs.«01_k».proof.Proof.Loop

/-! The grid from its first iteration to its last. -/

@[expose] public section

noncomputable section

namespace Cert.Proof.Att

open Cert.KernelIdeal Cert.KernelIdeal.Gen
open Idealize.ShloMosaic Idealize.ShloMosaic.TcCoe Idealize.ShloMosaic.Rounds Idealize.ShloMosaic.Pipeline Idealize.ShloMosaic.Transfers
open Idealize.SL Idealize.SL.RA Idealize.SL.BI
open scoped Idealize.SL.BI
open Idealize.SL.BI.BIBase Idealize.SL.BI.Laws Idealize.SL.Sem Idealize.SL.ProofMode

variable {F : FTy → Type} [FloatOps F]

local notation "𝕄" => MT nD τ sig Unit (Elt F) ℕ UU ℕ

variable (m : (ℓ : Loc nD τ sig) → Buf (Elt F) ℓ) (c : Dev nD)

/-! ## A buffer held whole is its pairs of rows -/

theorem og_cover : ∀ (c : Dev nD) (n : Fin 8), (∃ g : Fin 4, n.val = og c g) ∨ ∃ g : Fin 4, n.val = og (xnbr c) g := by decide
theorem og_ne : ∀ (c : Dev nD) (g g' : Fin 4), og c g ≠ og (xnbr c) g' := by decide
theorem og_inj : ∀ (c : Dev nD) (g g' : Fin 4), g ≠ g' → og c g ≠ og c g' := by decide

theorem oset_disj {a b : ℕ} (h : a ≠ b) : Disjoint (oset a) (oset b) := by
  rw [Finset.disjoint_left]; intro i hi hj
  simp only [oset, Finset.mem_filter] at hi hj
  exact h (hi.2.symm.trans hj.2)
theorem kset_disj {a b : ℕ} (h : a ≠ b) : Disjoint (kset a) (kset b) := by
  rw [Finset.disjoint_left]; intro i hi hj
  simp only [kset, Finset.mem_filter] at hi hj
  exact h (hi.2.symm.trans hj.2)

theorem o_split (X : S16x1024x128.Idx → Elt F .bf16) :
    (oM.view.loc (c : Thread nD τ) ↦[Finset.univ]{fullShare} X : sProp 𝕄)
      ⊣⊢ iprop((bigSep Finset.univ fun g : Fin 4 => oP c (og c g) X) ∗ (bigSep Finset.univ fun g : Fin 4 => oP c (og (xnbr c) g) X)) := by
  have hu : (Finset.univ : Finset S16x1024x128.Idx) = (Finset.univ.biUnion fun g : Fin 4 => oset (og c g)) ∪ (Finset.univ.biUnion fun g : Fin 4 => oset (og (xnbr c) g)) := by
    ext i
    simp only [Finset.mem_univ, true_iff, Finset.mem_union, Finset.mem_biUnion, true_and]
    have hi : (i 0).val < 16 := (i 0).isLt
    rcases og_cover c ⟨(i 0).val / 2, by omega⟩ with ⟨g, hg⟩ | ⟨g, hg⟩
    · exact .inl ⟨g, by simp only [oset, Finset.mem_filter, Finset.mem_univ, true_and]; exact hg⟩
    · exact .inr ⟨g, by simp only [oset, Finset.mem_filter, Finset.mem_univ, true_and]; exact hg⟩
  have hd : Disjoint (Finset.univ.biUnion fun g : Fin 4 => oset (og c g)) (Finset.univ.biUnion fun g : Fin 4 => oset (og (xnbr c) g)) := by
    rw [Finset.disjoint_biUnion_left]; intro g _
    rw [Finset.disjoint_biUnion_right]; intro g' _
    exact oset_disj (og_ne c g g')
  have e1 := pointsTo_biUnion (ℓ := oM.view.loc (c : Thread nD τ)) (q := fullShare) (f := X) (Lvl := ℕ) (Name := ℕ) (U := UU) (Ix := Unit) Finset.univ (fun g : Fin 4 => oset (og c g)) (fun a _ b _ h => oset_disj (og_inj c a b h))
  have e2 := pointsTo_biUnion (ℓ := oM.view.loc (c : Thread nD τ)) (q := fullShare) (f := X) (Lvl := ℕ) (Name := ℕ) (U := UU) (Ix := Unit) Finset.univ (fun g : Fin 4 => oset (og (xnbr c) g)) (fun a _ b _ h => oset_disj (og_inj (xnbr c) a b h))
  rw [hu, ← e1, ← e2]
  exact pointsTo_union hd

theorem kset_univ : (Finset.univ : Finset S8x1024x256.Idx) = Finset.univ.biUnion fun g : Fin 4 => kset g.val := by
  ext i
  simp only [Finset.mem_univ, true_iff, Finset.mem_biUnion, true_and]
  have hi : (i 0).val < 8 := (i 0).isLt
  exact ⟨⟨(i 0).val / 2, by omega⟩, by simp only [kset, Finset.mem_filter, Finset.mem_univ, true_and]⟩
theorem kv_split (X : S8x1024x256.Idx → Elt F .bf16) :
    (kvM.view.loc (c : Thread nD τ) ↦[Finset.univ]{fullShare} X : sProp 𝕄) = bigSep Finset.univ fun g : Fin 4 => kvP c g.val X := by
  rw [kset_univ]
  exact pointsTo_biUnion _ _ (fun a _ b _ h => kset_disj (fun e => h (Fin.ext e)))
theorem kvo_split (X : S8x1024x256.Idx → Elt F .bf16) :
    (kvoM.view.loc (c : Thread nD τ) ↦[Finset.univ]{fullShare} X : sProp 𝕄) = bigSep Finset.univ fun g : Fin 4 => kvoP c g.val X := by
  rw [kset_univ]
  exact pointsTo_biUnion _ _ (fun a _ b _ h => kset_disj (fun e => h (Fin.ext e)))

/-! ## The iterations, from the last to the first -/

theorem bs_sep (Φ Ψ : Fin 4 → sProp 𝕄) : (bigSep Finset.univ fun g => iprop(Φ g ∗ Ψ g)) ⊣⊢ iprop(bigSep Finset.univ Φ ∗ bigSep Finset.univ Ψ) :=
  ⟨Entails.of_eq (bigSep_sep _ _ _), Entails.of_eq (bigSep_sep _ _ _).symm⟩

theorem run9 {Q : PUnit → sProp 𝕄} (b : ℕ) : Q ⟨⟩ ⊢ WD c (some (Sum.inr b)) (iter (F := F) 9) Q := by
  rw [iter9]; unfold WD; rw [wp_ret]; iintro H; imodintro; iexact H

theorem run8 {Q : PUnit → sProp 𝕄} (K : CellIx → ℕ) :
    iprop(ctx m K c ∗ JJ m c t0_7 (cfg0.slots t0_0 0) 7 ∗ (JF m c -∗ Q ⟨⟩)) ⊢ WD c (some (Sum.inr 11)) (iter (F := F) 8) Q := by
  rw [iter8, startO_eq, waitO_eq]
  unfold JJ Rst
  iintro ⟨#HC, ⟨HB, HF, HI, Hs, ⟨Hss, Hsr, Hos, ⟨%fo, Hod⟩⟩⟩, Hk⟩
  iapply (op_waitQ' m c K (some (Sum.inr 11)) t0_7 7 rfl 7 _ (Q := Q)) $$ [HF HI]
  · isplitr; · iexact HC
    isplitl [HF] <;> iassumption
  iintro HH HI
  iapply (op_body m c K (Sum.inr 11) (Sum.Lex.sep _ _) t0_7 7 rfl (qs (cfg0.slots t0_7 0)) (Q := Q)) $$ [Hs HI HH]
  · isplitr; · iexact HC
    isplitl [Hs]; · iexact Hs
    isplitl [HI]; · iexact HI
    iexact HH
  iintro Hs HH HN
  ihave HN := (Entails.of_eq (show Nx m (7 : Fin 8).val c = Fin' m c from if_pos rfl)) $$ HN
  unfold Fin'
  icases HN with ⟨⟨%W, HO⟩, Hbar, HKV, H2, H3⟩
  ihave H2 := (bs_sep (F := F) (fun g => atPos ER (dCell c 2 g) 1 ∅ 0) (fun g => oP c (og c g) (OUT m c))).1 $$ H2
  icases H2 with ⟨Hp2, H2⟩
  ihave H3 := (bs_sep (F := F) (fun g => atPos ER (dCell c 3 g) 1 ∅ 0) (fun g => oP c (og (xnbr c) g) (OUT m c))).1 $$ H3
  icases H3 with ⟨Hp3, H3⟩
  ihave Hout := (o_split c (OUT m c)).2 $$ [H2 H3]
  · isplitl [H2] <;> iassumption
  iapply (op_startO m c (some (Sum.inr 11)) t0_7 fo (Q := Q)) $$ [Hout Hos Hod]
  · isplitl [Hout]; · iexact Hout
    isplitl [Hos] <;> iassumption
  iintro HFl
  ihave #HL := ctx_lev m K c $$ HC
  iapply (op_waitO m c (some (Sum.inr 11)) t0_7 0 (Above.zero 0) W (Q := Q)) $$ [HFl HO]
  · isplitl [HFl]; · iexact HFl
    isplitl [HO]; · iexact HO
    iexact HL
  iintro Hod Hout Hos HO
  iapply (op_next c 9 11 10 (by decide) (Q := Q))
  iapply (run9 c 10 (Q := Q))
  iapply Hk
  unfold JF
  isplitl [HB]; · iexact HB
  isplitl [HH]; · iapply (SH_SB m c 7 _ _) $$ HH
  isplitl [HO]; · iexact HO
  isplitl [Hbar]; · iexact Hbar
  isplitl [HKV]; · iexact HKV
  isplitl [Hp2]; · iexact Hp2
  isplitl [Hp3]; · iexact Hp3
  isplitl [Hout]; · iexact Hout
  isplitl [Hs]; · iexact Hs
  isplitl [Hss]; · iexact Hss
  isplitl [Hsr]; · iexact Hsr
  isplitl [Hos] <;> iassumption

theorem run7 {Q : PUnit → sProp 𝕄} (K : CellIx → ℕ) :
    iprop(ctx m K c ∗ JJ m c t0_6 (cfg0.slots t0_7 0) 6 ∗ (JF m c -∗ Q ⟨⟩)) ⊢ WD c (some (Sum.inr 12)) (iter (F := F) 7) Q := by
  rw [iter7]
  iintro ⟨#HC, HJ, Hk⟩
  iapply (mid_run m c K 12 t0_6 t0_7 6 rfl (by decide) 8 11 (by decide) (Q := Q))
  isplitr; · iexact HC
  isplitl [HJ]; · iexact HJ
  iintro HJ
  iapply (run8 m c K (Q := Q))
  isplitr; · iexact HC
  isplitl [HJ]; · iexact HJ
  iexact Hk
theorem run6 {Q : PUnit → sProp 𝕄} (K : CellIx → ℕ) :
    iprop(ctx m K c ∗ JJ m c t0_5 (cfg0.slots t0_6 0) 5 ∗ (JF m c -∗ Q ⟨⟩)) ⊢ WD c (some (Sum.inr 13)) (iter (F := F) 6) Q := by
  rw [iter6]
  iintro ⟨#HC, HJ, Hk⟩
  iapply (mid_run m c K 13 t0_5 t0_6 5 rfl (by decide) 7 12 (by decide) (Q := Q))
  isplitr; · iexact HC
  isplitl [HJ]; · iexact HJ
  iintro HJ
  iapply (run7 m c K (Q := Q))
  isplitr; · iexact HC
  isplitl [HJ]; · iexact HJ
  iexact Hk
theorem run5 {Q : PUnit → sProp 𝕄} (K : CellIx → ℕ) :
    iprop(ctx m K c ∗ JJ m c t0_4 (cfg0.slots t0_5 0) 4 ∗ (JF m c -∗ Q ⟨⟩)) ⊢ WD c (some (Sum.inr 14)) (iter (F := F) 5) Q := by
  rw [iter5]
  iintro ⟨#HC, HJ, Hk⟩
  iapply (mid_run m c K 14 t0_4 t0_5 4 rfl (by decide) 6 13 (by decide) (Q := Q))
  isplitr; · iexact HC
  isplitl [HJ]; · iexact HJ
  iintro HJ
  iapply (run6 m c K (Q := Q))
  isplitr; · iexact HC
  isplitl [HJ]; · iexact HJ
  iexact Hk
theorem run4 {Q : PUnit → sProp 𝕄} (K : CellIx → ℕ) :
    iprop(ctx m K c ∗ JJ m c t0_3 (cfg0.slots t0_4 0) 3 ∗ (JF m c -∗ Q ⟨⟩)) ⊢ WD c (some (Sum.inr 15)) (iter (F := F) 4) Q := by
  rw [iter4]
  iintro ⟨#HC, HJ, Hk⟩
  iapply (mid_run m c K 15 t0_3 t0_4 3 rfl (by decide) 5 14 (by decide) (Q := Q))
  isplitr; · iexact HC
  isplitl [HJ]; · iexact HJ
  iintro HJ
  iapply (run5 m c K (Q := Q))
  isplitr; · iexact HC
  isplitl [HJ]; · iexact HJ
  iexact Hk
theorem run3 {Q : PUnit → sProp 𝕄} (K : CellIx → ℕ) :
    iprop(ctx m K c ∗ JJ m c t0_2 (cfg0.slots t0_3 0) 2 ∗ (JF m c -∗ Q ⟨⟩)) ⊢ WD c (some (Sum.inr 16)) (iter (F := F) 3) Q := by
  rw [iter3]
  iintro ⟨#HC, HJ, Hk⟩
  iapply (mid_run m c K 16 t0_2 t0_3 2 rfl (by decide) 4 15 (by decide) (Q := Q))
  isplitr; · iexact HC
  isplitl [HJ]; · iexact HJ
  iintro HJ
  iapply (run4 m c K (Q := Q))
  isplitr; · iexact HC
  isplitl [HJ]; · iexact HJ
  iexact Hk
theorem run2 {Q : PUnit → sProp 𝕄} (K : CellIx → ℕ) :
    iprop(ctx m K c ∗ JJ m c t0_1 (cfg0.slots t0_2 0) 1 ∗ (JF m c -∗ Q ⟨⟩)) ⊢ WD c (some (Sum.inr 17)) (iter (F := F) 2) Q := by
  rw [iter2]
  iintro ⟨#HC, HJ, Hk⟩
  iapply (mid_run m c K 17 t0_1 t0_2 1 rfl (by decide) 3 16 (by decide) (Q := Q))
  isplitr; · iexact HC
  isplitl [HJ]; · iexact HJ
  iintro HJ
  iapply (run3 m c K (Q := Q))
  isplitr; · iexact HC
  isplitl [HJ]; · iexact HJ
  iexact Hk

/-- Before the first iteration. -/
def JS : sProp 𝕄 :=
  iprop(SB m c (cfg0.slots t0_0 0) (qs (cfg0.slots t0_0 0)) ∗ SB m c (cfg0.slots t0_1 0) (qs (cfg0.slots t0_1 0))
    ∗ (∃ f : S1024x8x256.Idx → Elt F .bf16, sM.view.loc (c : Thread nD τ) ↦[Finset.univ]{fullShare} f) ∗ In m 0 c ∗ Rst m c)

theorem run1 {Q : PUnit → sProp 𝕄} (K : CellIx → ℕ) :
    iprop(ctx m K c ∗ (SF m c t0_0 (cfg0.slots t0_0 0) (qs (cfg0.slots t0_0 0)) ∗ SB m c (cfg0.slots t0_1 0) (qs (cfg0.slots t0_1 0))
        ∗ (∃ f : S1024x8x256.Idx → Elt F .bf16, sM.view.loc (c : Thread nD τ) ↦[Finset.univ]{fullShare} f) ∗ In m 0 c ∗ Rst m c) ∗ (JF m c -∗ Q ⟨⟩))
      ⊢ WD c (some (Sum.inr 18)) (iter (F := F) 1) Q := by
  rw [iter1, startS_eq, waitS_eq]
  unfold Rst
  iintro ⟨#HC, ⟨HF, HB, ⟨%f, Hf⟩, HI, ⟨Hss, Hsr, Hos, Hod⟩⟩, Hk⟩
  iapply (op_startS m c (some (Sum.inr 18)) t0_0 f (Q := Q)) $$ [Hf Hss Hsr]
  · isplitl [Hf]; · iexact Hf
    isplitl [Hss] <;> iassumption
  iintro HFl
  iapply (op_startQ m c (some (Sum.inr 18)) t0_1 _ (Q := Q)) $$ HB
  iintro HF1
  iapply (op_waitQ' m c K (some (Sum.inr 18)) t0_0 0 rfl 0 _ (Q := Q)) $$ [HF HI]
  · isplitr; · iexact HC
    isplitl [HF] <;> iassumption
  iintro HH HI
  ihave HI := In_owes m c 0 $$ HI
  icases HI with ⟨%O, %W, %hO, HO, HI⟩
  ihave #HL := ctx_lev m K c $$ HC
  iapply (op_waitS m c (some (Sum.inr 18)) t0_0 O hO W (Q := Q)) $$ [HFl HO]
  · isplitl [HFl]; · iexact HFl
    isplitl [HO]; · iexact HO
    iexact HL
  iintro Hs Hss Hsr HO
  ihave HI := HI $$ HO
  iapply (op_body m c K (Sum.inr 18) (Sum.Lex.sep _ _) t0_0 0 rfl (qs (cfg0.slots t0_0 0)) (Q := Q)) $$ [Hs HI HH]
  · isplitr; · iexact HC
    isplitl [Hs]; · iexact Hs
    isplitl [HI]; · iexact HI
    iexact HH
  iintro Hs HH HN
  iapply (op_next c 2 18 17 (by decide) (Q := Q))
  iapply (run2 m c K (Q := Q))
  isplitr; · iexact HC
  isplitr [Hk]
  rotate_left
  · iexact Hk
  unfold JJ Rst
  isplitl [HH]; · iapply (SH_SB m c 0 _ _) $$ HH
  isplitl [HF1]; · iexact HF1
  isplitl [HN]; · iapply (Entails.of_eq (Nx_In m c 0 (by decide))) $$ HN
  isplitl [Hs]; · iexact Hs
  isplitl [Hss]; · iexact Hss
  isplitl [Hsr]; · iexact Hsr
  isplitl [Hos] <;> iassumption

theorem run0 {Q : PUnit → sProp 𝕄} (K : CellIx → ℕ) :
    iprop(ctx m K c ∗ JS m c ∗ (JF m c -∗ Q ⟨⟩)) ⊢ WD c (some (Sum.inr 19)) (iter (F := F) 0) Q := by
  rw [iter0]
  unfold JS
  iintro ⟨#HC, ⟨HB0, H⟩, Hk⟩
  iapply (op_startQ m c (some (Sum.inr 19)) t0_0 _ (Q := Q)) $$ HB0
  iintro HF
  iapply (op_next c 1 19 18 (by decide) (Q := Q))
  iapply (run1 m c K (Q := Q))
  isplitr; · iexact HC
  isplitr [Hk]
  rotate_left
  · iexact Hk
  isplitl [HF] <;> iassumption

/-- The whole grid. -/
theorem run_prun {Q : PUnit → sProp 𝕄} (K : CellIx → ℕ) :
    iprop(ctx m K c ∗ JS m c ∗ (JF m c -∗ Q ⟨⟩)) ⊢ WD c (some (Sum.inr 20)) (Pipeline.prun (nD := nD) (τ := τ) (pcfgs (F := F)) (0 : Fin 1)) Q := by
  rw [prun_eq]
  iintro H
  iapply (wp_assume VL (c : Thread nD τ) (some (Sum.inr 20)) Set.univ (Q := Q) trivial)
  iapply (op_next c 0 20 19 (by decide) (Q := Q))
  iapply (run0 m c K (Q := Q)) $$ H

end Cert.Proof.Att

end
-- ==== Proof.Region.lean ====
module

public import proofs.«01_k».proof.Proof.Iter
public import proofs.«01_k».proof.Proof.Gen.KernelIdeal.Regions

/-! The kernel call: its cells opened, the grid run, its cells closed. -/

@[expose] public section

noncomputable section

namespace Cert.Proof.Att

open Cert.KernelIdeal Cert.KernelIdeal.Gen
open Idealize.ShloMosaic Idealize.ShloMosaic.TcCoe Idealize.ShloMosaic.Rounds Idealize.ShloMosaic.Pipeline Idealize.ShloMosaic.Transfers
open Idealize.SL Idealize.SL.RA Idealize.SL.BI
open scoped Idealize.SL.BI
open Idealize.SL.BI.BIBase Idealize.SL.BI.Laws Idealize.SL.Sem Idealize.SL.ProofMode

variable {F : FTy → Type} [FloatOps F]

local notation "𝕄" => MT nD τ sig Unit (Elt F) ℕ UU ℕ

variable (m : (ℓ : Loc nD τ sig) → Buf (Elt F) ℓ) (c : Dev nD)

/-! ## The call's own buffers and semaphores -/

theorem bigSep_pair {I : Type} [DecidableEq I] {S : Finset I} {Φ Ψ : I → sProp 𝕄} : iprop(bigSep S Φ ∗ bigSep S Ψ) ⊢ bigSep S fun i => iprop(Φ i ∗ Ψ i) :=
  Entails.of_eq (bigSep_sep _ _ _).symm
theorem bigSep_unpair {I : Type} [DecidableEq I] {S : Finset I} {Φ Ψ : I → sProp 𝕄} : (bigSep S fun i => iprop(Φ i ∗ Ψ i)) ⊢ iprop(bigSep S Φ ∗ bigSep S Ψ) :=
  Entails.of_eq (bigSep_sep _ _ _)

theorem bigSep_fupd {I : Type} [DecidableEq I] (S : Finset I) (Φ : I → sProp 𝕄) :
    (bigSep S fun i => iprop(|={Set.univ}=> Φ i)) ⊢ |={Set.univ}=> bigSep S Φ := by
  induction S using Finset.induction_on with
  | empty => rw [bigSep_empty, bigSep_empty]; iintro H; imodintro; iexact H
  | insert a S h ih =>
    rw [bigSep_insert h, bigSep_insert h]
    refine (show iprop((|={Set.univ}=> Φ a) ∗ (bigSep S fun i => iprop(|={Set.univ}=> Φ i))) ⊢ iprop(|={Set.univ}=> (Φ a ∗ bigSep S Φ)) from ?_)
    iintro ⟨Ha, HS⟩
    imod Ha
    imod ih $$ HS with HS
    imodintro
    isplitl [Ha] <;> iassumption

abbrev anyBuf (b : Ref sig .tc) : sProp 𝕄 := iprop(∃ f : Buf (Elt F) ((c : Thread nD τ).loc b), (c : Thread nD τ).loc b ↦[Finset.univ]{fullShare} f)

theorem bufs_split : (scopedBufs (c : Thread nD τ) : sProp 𝕄)
    = iprop(anyBuf c cc0_stg0_0 ∗ anyBuf c cc0_stg0_1 ∗ anyBuf c cc0_stg1_0 ∗ anyBuf c cc0_stg2_0 ∗ anyBuf c cc0_scratch0 ∗ anyBuf (F := F) c cc0_scratch1) := by
  refine (scopedBufs_tc c).trans ?_
  exact bigSep_eq_bigSepL_of_eq [cc0_stg0_0, cc0_stg0_1, cc0_stg1_0, cc0_stg2_0, cc0_scratch0, cc0_scratch1] (by decide +kernel) (by decide +kernel) _

def dEmb : Fin 4 × Fin 4 ↪ SemLoc sig := ⟨fun p => .dma (dS p.1 p.2), by decide +kernel⟩
theorem sems_split : (scopedSems0 (c : Thread nD τ) : sProp 𝕄)
    = iprop((semVal ((c : Thread nD τ), .dma (win0_0.sem (cfg0.slots t0_0 0))) 0 ∗ semVal ((c : Thread nD τ), .dma (win0_0.sem (cfg0.slots t0_1 0))) 0 ∗ sSem (F := F) c ∗ oSem c)
        ∗ bigSep Finset.univ fun p : Fin 4 × Fin 4 => semVal (dCell c p.1 p.2) 0) := by
  refine (scopedSems0_tc c).trans ?_
  rw [show (Finset.univ.filter fun sm : SemLoc sig => sm.isScoped .tc)
      = {(.dma (win0_0.sem (cfg0.slots t0_0 0)) : SemLoc sig), .dma (win0_0.sem (cfg0.slots t0_1 0)), .dma (win0_1.sem 0), .dma (win0_2.sem 0)} ∪ Finset.univ.map dEmb by decide +kernel,
    bigSep_union (by decide +kernel), bigSep_map, bigSep_insert (by decide +kernel), bigSep_insert (by decide +kernel), bigSep_insert (by decide +kernel), bigSep_singleton]
  rfl

/-! ## What the call is entered with -/

/-- The tokens and credits of a pair of heads. -/
def D4 (g : Fin 4) : sProp 𝕄 :=
  iprop(dutyTok ER (dCell c 0 g) 0 0 ∗ dutyTok ER (dCell (ynbr c) 1 g) 0 0 ∗ dutyTok ER (dCell c 2 g) 0 0 ∗ dutyTok ER (dCell (xnbr c) 3 g) 0 0
    ∗ cred (tallyAt (dCell c 1 g) () N1) ∗ cred (tallyAt (dCell c 3 g) () N2))
def Lin : sProp 𝕄 :=
  iprop((∃ W, owes (c : Thread nD τ) (O₀ c) W) ∗ reached ER (barCell (ynbr c)) 0 ∗ reached ER (barCell (xnbr c)) 0
    ∗ dutyTok ER (barCell (ynbr c)) 0 0 ∗ dutyTok ER (barCell (xnbr c)) 0 1
    ∗ cred (tallyAt (barCell c) () 2) ∗ atPos ER (barCell c) 0 ∅ 0 ∗ bigSep Finset.univ (D4 (F := F) c))
/-- Device `c`'s part of the protocol before the call. -/
def Gh (K : CellIx → ℕ) : sProp 𝕄 :=
  iprop(invs m K ∗ (bigSep Finset.univ fun p : Fin 4 × Fin 4 => openTok ER (dCell c p.1 p.2)) ∗ Lin (F := F) c)

theorem open_one (K : CellIx → ℕ) (p : Fin 4 × Fin 4) :
    iprop(invs m K ∗ openTok ER (dCell c p.1 p.2) ∗ semVal (dCell c p.1 p.2) 0) ⊢ iprop(|={Set.univ}=> (atPos ER (dCell c p.1 p.2) 0 ∅ 0 ∗ reached ER (dCell c p.1 p.2) 0)) := by
  iintro ⟨#HI, Ho, Hv⟩
  iapply (Rounds.cell_open ER (sched m) (g := dCell c p.1 p.2) (Set.mem_univ (K (c, some p))))
  isplitr; · iapply (inv_d m K c p.1 p.2) $$ HI
  isplitl [Ho] <;> iassumption

theorem open_all (K : CellIx → ℕ) :
    iprop(invs m K ∗ (bigSep Finset.univ fun p : Fin 4 × Fin 4 => openTok ER (dCell c p.1 p.2)) ∗ (bigSep Finset.univ fun p : Fin 4 × Fin 4 => semVal (dCell c p.1 p.2) 0))
      ⊢ (|={Set.univ}=> ((bigSep Finset.univ fun p : Fin 4 × Fin 4 => atPos ER (dCell c p.1 p.2) 0 ∅ 0) ∗ (bigSep Finset.univ fun p : Fin 4 × Fin 4 => reached ER (dCell c p.1 p.2) 0)) : sProp 𝕄) := by
  iintro ⟨#HI, Ho, Hv⟩
  ihave H := (show iprop(invs m K ∗ bigSep Finset.univ fun p : Fin 4 × Fin 4 => iprop(openTok ER (dCell c p.1 p.2) ∗ semVal (dCell c p.1 p.2) 0))
      ⊢ bigSep Finset.univ fun p : Fin 4 × Fin 4 => iprop(|={Set.univ}=> (atPos ER (dCell c p.1 p.2) 0 ∅ 0 ∗ reached ER (dCell c p.1 p.2) 0))
    from bigSep_with_persistent fun p _ => open_one m c K p) $$ [Ho Hv]
  · isplitr; · iexact HI
    iapply bigSep_pair
    isplitl [Ho] <;> iassumption
  imod (bigSep_fupd _ _) $$ H with H
  imodintro
  iapply bigSep_unpair $$ H

theorem close_d (K : CellIx → ℕ) (k g : Fin 4) :
    iprop(invs m K ∗ atPos ER (dCell c k g) 1 ∅ 0) ⊢ (|={Set.univ}=> semVal (dCell c k g) 0 : sProp 𝕄) := by
  iintro ⟨#HI, H⟩
  iapply (close m (K (c, some (k, g))) (dCell c k g))
  isplitr; · iapply (inv_d m K c k g) $$ HI
  iexact H

theorem prod4 (Φ : Fin 4 × Fin 4 → sProp 𝕄) : bigSep Finset.univ Φ
    = iprop((bigSep Finset.univ fun g => Φ (0, g)) ∗ (bigSep Finset.univ fun g => Φ (1, g)) ∗ (bigSep Finset.univ fun g => Φ (2, g)) ∗ (bigSep Finset.univ fun g => Φ (3, g))) := by
  rw [bigSep_univ_prod, big4]

theorem close_k (K : CellIx → ℕ) (k : Fin 4) :
    iprop(invs m K ∗ bigSep Finset.univ fun g : Fin 4 => atPos ER (dCell c k g) 1 ∅ 0) ⊢ (|={Set.univ}=> (bigSep Finset.univ fun g : Fin 4 => semVal (dCell c k g) 0) : sProp 𝕄) :=
  (bigSep_with_persistent (R := invs m K) (Φ := fun g : Fin 4 => atPos ER (dCell c k g) 1 ∅ 0) fun g _ => close_d m c K k g).trans (bigSep_fupd _ _)

/-- A pair of heads' holdings at entry, sorted. -/
def X4 (K : CellIx → ℕ) (g : Fin 4) : sProp 𝕄 :=
  iprop((∃ f, kvP (F := F) c g.val f) ∗ (∃ f, kvoP (F := F) c g.val f) ∗ (∃ f, oP (F := F) c (og c g) f) ∗ (∃ f, oP (F := F) c (og (xnbr c) g) f) ∗ D4 (F := F) c g
    ∗ atPos ER (dCell c 0 g) 0 ∅ 0 ∗ atPos ER (dCell c 1 g) 0 ∅ 0 ∗ atPos ER (dCell c 2 g) 0 ∅ 0 ∗ atPos ER (dCell c 3 g) 0 ∅ 0)

theorem ynbr2 : ynbr (ynbr c) = c := by revert c; decide
theorem xnbr2 : xnbr (xnbr c) = c := by revert c; decide

theorem X4_sort (K : CellIx → ℕ) (g : Fin 4) :
    iprop(ctx m K c ∗ X4 (F := F) c K g)
      ⊢ iprop(((∃ f, kvoP (F := F) (ynbr (ynbr c)) g.val f) ∗ reached ER (dCell (ynbr (ynbr c)) 1 g) 0)
        ∗ ((∃ f, oP (F := F) (xnbr (xnbr c)) (og (xnbr c) g) f) ∗ reached ER (dCell (xnbr (xnbr c)) 3 g) 0)
        ∗ A0 (F := F) c g ∗ O0 (F := F) c g ∗ R3 (F := F) c g) := by
  rw [ynbr2, xnbr2]
  unfold X4 D4 A0 O0 R3
  iintro ⟨#HC, Hkv, Hkvo, Ho, Hox, ⟨Hd0, Hd1, Hd2, Hd3, Hc1, Hc3⟩, Ha0, Ha1, Ha2, Ha3⟩
  isplitl [Hkvo]
  · isplitl [Hkvo]; · iexact Hkvo
    iapply (ctx_reached m K c 1 g) $$ HC
  isplitl [Hox]
  · isplitl [Hox]; · iexact Hox
    iapply (ctx_reached m K c 3 g) $$ HC
  isplitl [Hkv Hd0 Hd1 Ha0 Hc1 Ha1]
  · isplitl [Hkv]; · iexact Hkv
    isplitl [Hd0 Hd1]; · isplitl [Hd0] <;> iassumption
    isplitl [Ha0]; · iexact Ha0
    isplitl [Hc1] <;> iassumption
  isplitl [Ho Hd2 Hd3 Ha2]
  · isplitl [Ho]; · iexact Ho
    isplitl [Hd2]; · iexact Hd2
    isplitl [Hd3] <;> iassumption
  isplitl [Hc3] <;> iassumption

theorem any_all {T : Type} (P : Fin 4 → T → sProp 𝕄) (f : T) : (bigSep Finset.univ fun g => P g f) ⊢ bigSep Finset.univ fun g => iprop(∃ f, P g f) :=
  bigSep_mono fun g _ => exists_intro (Φ := fun f => P g f) f

theorem St0_intro (K : CellIx → ℕ) :
    iprop(ctx m K c ∗ Lin (F := F) c ∗ (bigSep Finset.univ fun p : Fin 4 × Fin 4 => atPos ER (dCell c p.1 p.2) 0 ∅ 0)
        ∗ anyBuf (F := F) c cc0_stg2_0 ∗ anyBuf (F := F) c cc0_scratch0 ∗ anyBuf (F := F) c cc0_scratch1) ⊢ St0 (F := F) c := by
  unfold Lin
  iintro ⟨#HC, ⟨⟨%W, HO⟩, #Hry, #Hrx, Hty, Htx, Hcr, Hat, HD⟩, Hp, ⟨%fo, Ho⟩, ⟨%fk, Hk⟩, ⟨%fv, Hv⟩⟩
  ihave Ho := (o_split (F := F) c fo).1 $$ Ho
  icases Ho with ⟨Ho, Hox⟩
  ihave Hk := (Entails.of_eq (kv_split (F := F) c fk)) $$ Hk
  ihave Hv := (Entails.of_eq (kvo_split (F := F) c fv)) $$ Hv
  ihave Hp := (Entails.of_eq (prod4 (F := F) fun p : Fin 4 × Fin 4 => atPos ER (dCell c p.1 p.2) 0 ∅ 0)) $$ Hp
  icases Hp with ⟨H0, H1, H2, H3⟩
  ihave HX := (show iprop(ctx m K c ∗ bigSep Finset.univ (X4 (F := F) c K)) ⊢ _ from bigSep_with_persistent fun g _ => X4_sort m c K g) $$ [Ho Hox Hk Hv HD H0 H1 H2 H3]
  · isplitr; · iexact HC
    unfold X4
    iapply bigSep_pair; isplitl [Hk]; · iapply (any_all (F := F) (fun g f => kvP (F := F) c g.val f) fk) $$ Hk
    iapply bigSep_pair; isplitl [Hv]; · iapply (any_all (F := F) (fun g f => kvoP (F := F) c g.val f) fv) $$ Hv
    iapply bigSep_pair; isplitl [Ho]; · iapply (any_all (F := F) (fun g f => oP (F := F) c (og c g) f) fo) $$ Ho
    iapply bigSep_pair; isplitl [Hox]; · iapply (any_all (F := F) (fun g f => oP (F := F) c (og (xnbr c) g) f) fo) $$ Hox
    iapply bigSep_pair; isplitl [HD]; · iexact HD
    iapply bigSep_pair; isplitl [H0]; · iexact H0
    iapply bigSep_pair; isplitl [H1]; · iexact H1
    iapply bigSep_pair; isplitl [H2]; · iexact H2
    iexact H3
  ihave HX := bigSep_unpair $$ HX
  icases HX with ⟨HY, HX⟩
  ihave HX := bigSep_unpair $$ HX
  icases HX with ⟨HXx, HX⟩
  ihave HX := bigSep_unpair $$ HX
  icases HX with ⟨HA, HX⟩
  ihave HX := bigSep_unpair $$ HX
  icases HX with ⟨HOo, HR⟩
  unfold St0 B0 barY barX
  isplitl [HO Hty Htx Hcr Hat HY HXx]
  · iexists W
    isplitl [HO]; · iexact HO
    isplitr; · iexact Hry
    isplitr; · iexact Hrx
    isplitl [Hty]; · iexact Hty
    isplitl [Htx]; · iexact Htx
    isplitl [Hcr]; · iexact Hcr
    isplitl [Hat]; · iexact Hat
    isplitl [HY]; · iexact HY
    iexact HXx
  isplitl [HA]; · iexact HA
  isplitl [HOo]; · iexact HOo
  iexact HR

/-! ## The buffers in memory -/

/-- What the call leaves in the result's array. -/
abbrev outs : Outs (F := F) := fun _ r c => if h : r = main_v24 then h ▸ (OUT m c) else VA m c r
theorem outs_eq : outs m 2 main_v24 c = OUT m c := by unfold outs; rw [dif_pos rfl]

abbrev hbm (c : Dev nD) (b : DevRef τ sig) (V : Valuation τ sig (Elt F)) : sProp 𝕄 := (((c : Thread nD τ).1, b) : Loc nD τ sig) ↦[Finset.univ]{fullShare} V b
theorem mem11 : (Proc.devRef .tc main_v11 : DevRef τ sig) ∈ ((Pipeline.ucRefs τ sig).erase (Proc.devRef .tc main_v24)) := by decide +kernel
theorem mem23 : (Proc.devRef .tc main_v23 : DevRef τ sig) ∈ (((Pipeline.ucRefs τ sig).erase (Proc.devRef .tc main_v24)).erase (Proc.devRef .tc main_v11)) := by decide +kernel
theorem mem24 : (Proc.devRef .tc main_v24 : DevRef τ sig) ∈ (Pipeline.ucRefs τ sig) := by decide +kernel
abbrev restRefs : Finset (DevRef τ sig) := (((Pipeline.ucRefs τ sig).erase (Proc.devRef .tc main_v24)).erase (Proc.devRef .tc main_v11)).erase (Proc.devRef .tc main_v23)

theorem held_split (V : Valuation τ sig (Elt F)) : (StableHlo.held (c : Thread nD τ) (Pipeline.ucRefs τ sig) V : sProp 𝕄)
    = iprop(hbm c (Proc.devRef .tc main_v24) V ∗ hbm c (Proc.devRef .tc main_v11) V ∗ hbm c (Proc.devRef .tc main_v23) V ∗ bigSep restRefs fun b => hbm c b V) := by
  unfold StableHlo.held
  rw [bigSep_erase mem24, bigSep_erase mem11, bigSep_erase mem23]
  rfl

theorem held_in : (StableHlo.held (c : Thread nD τ) (Pipeline.ucRefs τ sig) (V1 m c) : sProp 𝕄)
    ⊢ iprop((∃ f, oDst (F := F) c f) ∗ qSrc m c fullShare ∗ sSrc m c ∗ bigSep restRefs fun b => hbm c b (V1 m c)) := by
  rw [held_split]
  iintro ⟨H24, H11, H23, HR⟩
  isplitl [H24]; · iexists _; iexact H24
  isplitl [H11]; · iexact H11
  isplitl [H23]; · iexact H23
  iexact HR

theorem V2_ne (b : DevRef τ sig) (h : b ≠ Proc.devRef .tc main_v24) : V2 m (outs m) c b = V1 m c b := Function.update_of_ne h _ _
theorem V2_24 : V2 m (outs m) c (Proc.devRef .tc main_v24) = OUT m c := (Function.update_self _ _ _).trans (outs_eq m c)

theorem held_out : iprop(oDst c (OUT m c) ∗ qSrc m c fullShare ∗ sSrc m c ∗ bigSep restRefs fun b => hbm c b (V1 m c))
    ⊢ (StableHlo.held (c : Thread nD τ) (Pipeline.ucRefs τ sig) (V2 m (outs m) c) : sProp 𝕄) := by
  have e : (bigSep restRefs fun b => hbm c b (V1 m c) : sProp 𝕄) = bigSep restRefs fun b => hbm c b (V2 m (outs m) c) :=
    bigSep_congr fun b hb => by
      have hb' : b ≠ Proc.devRef .tc main_v24 := Finset.ne_of_mem_erase (Finset.mem_of_mem_erase (Finset.mem_of_mem_erase hb))
      unfold hbm; rw [V2_ne m c b hb']
  have e24 : hbm c (Proc.devRef .tc main_v24) (V2 m (outs m) c) = oDst c (OUT m c) :=
    congrArg (fun X : S16x1024x128.Idx → Elt F .bf16 => oDst c X) (V2_24 m c)
  have e11 : hbm c (Proc.devRef .tc main_v11) (V2 m (outs m) c) = qSrc m c fullShare :=
    congrArg (fun X : S8x1024x128.Idx → Elt F .f32 => ((c : Thread nD τ).loc main_v11 ↦[Finset.univ]{fullShare} X : sProp 𝕄)) (V2_ne m c _ (by decide))
  have e23 : hbm c (Proc.devRef .tc main_v23) (V2 m (outs m) c) = sSrc m c :=
    congrArg (fun X : S1024x8x256.Idx → Elt F .bf16 => ((c : Thread nD τ).loc main_v23 ↦[Finset.univ]{fullShare} X : sProp 𝕄)) (V2_ne m c _ (by decide))
  rw [held_split, e24, e11, e23, ← e]

/-! ## The call -/

/-- A device's state before the call, and after. -/
def Pre1 (c : Dev nD) : sProp 𝕄 := iprop(StableHlo.held (c : Thread nD τ) (Pipeline.ucRefs τ sig) (V1 m c) ∗ ∃ K, Gh m c K)
def Post1 (c : Dev nD) : sProp 𝕄 :=
  iprop(StableHlo.held (c : Thread nD τ) (Pipeline.ucRefs τ sig) (V2 m (outs m) c) ∗ semVal (barCell c) 0 ∗ ∃ W, owes (c : Thread nD τ) (0 : CellTallies nD τ sig Unit) W)

theorem KV8 (g : Fin 4) : KVg m 8 c g = iprop(kvP c g.val (KV m c) ∗ kvoP c g.val (KV m (ynbr c)) ∗ atPos ER (dCell c 0 g) 1 ∅ 0 ∗ atPos ER (dCell c 1 g) 1 ∅ 0) := by
  unfold KVg; exact if_pos (by omega)
theorem KV8_all : bigSep Finset.univ (KVg m 8 c)
    ⊢ iprop(anyBuf (F := F) c cc0_scratch0 ∗ anyBuf (F := F) c cc0_scratch1 ∗ (bigSep Finset.univ fun g : Fin 4 => atPos ER (dCell c 0 g) 1 ∅ 0) ∗ (bigSep Finset.univ fun g : Fin 4 => atPos ER (dCell c 1 g) 1 ∅ 0)) := by
  rw [bigSep_congr fun g _ => KV8 m c g]
  iintro H
  ihave H := bigSep_unpair $$ H
  icases H with ⟨Hk, H⟩
  ihave H := bigSep_unpair $$ H
  icases H with ⟨Hv, H⟩
  ihave H := bigSep_unpair $$ H
  icases H with ⟨H0, H1⟩
  isplitl [Hk]; · iexists (KV m c); iapply (Entails.of_eq (kv_split (F := F) c (KV m c)).symm) $$ Hk
  isplitl [Hv]; · iexists (KV m (ynbr c)); iapply (Entails.of_eq (kvo_split (F := F) c (KV m (ynbr c))).symm) $$ Hv
  isplitl [H0]; · iexact H0
  iexact H1

theorem qs0 : qs (cfg0.slots t0_0 0) = fullShare.left := rfl
theorem qs1 : qs (cfg0.slots t0_1 0) = fullShare.right := rfl
theorem q_split : qSrc m c fullShare ⊣⊢ iprop(qSrc m c fullShare.left ∗ qSrc m c fullShare.right) := pointsTo_share (PosShare.mem_left_op_right fullShare)

/-- At entry. -/
theorem enter (K : CellIx → ℕ) :
    iprop(scopedBufs (c : Thread nD τ) ∗ scopedSems0 (c : Thread nD τ) ∗ levAts L lv ∗ StableHlo.held (c : Thread nD τ) (Pipeline.ucRefs τ sig) (V1 m c) ∗ Gh m c K)
      ⊢ (|={Set.univ}=> (ctx m K c ∗ JS m c ∗ bigSep restRefs fun b => hbm c b (V1 m c)) : sProp 𝕄) := by
  rw [bufs_split, sems_split]
  unfold Gh
  iintro ⟨⟨H0, H1, Hs, Ho, Hk, Hv⟩, ⟨⟨Hd0, Hd1, Hd2, Hd3⟩, Hsem⟩, #HL, Hh, ⟨#HI, Hop, Hlin⟩⟩
  imod (open_all m c K) $$ [Hop Hsem] with ⟨Hp, #Hr⟩
  · isplitr; · iexact HI
    isplitl [Hop] <;> iassumption
  imodintro
  ihave #HC := (show iprop(invs m K ∗ levAts L lv ∗ bigSep Finset.univ fun p : Fin 4 × Fin 4 => reached ER (dCell c p.1 p.2) 0) ⊢ ctx m K c by unfold ctx; exact .rfl) $$ [HI HL Hr]
  · isplitr; · iexact HI
    isplitr; · iexact HL
    iexact Hr
  ihave Hh := (held_in m c) $$ Hh
  icases Hh with ⟨Hod, Hq, Hss, HR⟩
  ihave Hq := (q_split m c).1 $$ Hq
  icases Hq with ⟨Hq0, Hq1⟩
  isplitr; · iexact HC
  isplitr [HR]
  rotate_left
  · iexact HR
  unfold JS SB Rst
  rw [qs0, qs1]
  isplitl [H0 Hd0 Hq0]
  · isplitl [H0]; · iexact H0
    isplitl [Hd0]; · iexact Hd0
    iexact Hq0
  isplitl [H1 Hd1 Hq1]
  · isplitl [H1]; · iexact H1
    isplitl [Hd1]; · iexact Hd1
    iexact Hq1
  isplitl [Hs]; · iexact Hs
  isplitl [Hlin Hp Ho Hk Hv]
  · iapply (Entails.of_eq (show In m 0 c = St0 c from if_pos rfl).symm)
    iapply (St0_intro m c K)
    isplitr; · iexact HC
    isplitl [Hlin]; · iexact Hlin
    isplitl [Hp]; · iexact Hp
    isplitl [Ho]; · iexact Ho
    isplitl [Hk] <;> iassumption
  isplitl [Hd2]; · iexact Hd2
  isplitl [Hss]; · iexact Hss
  isplitl [Hd3]; · iexact Hd3
  iexact Hod

/-- At exit. -/
theorem leave (K : CellIx → ℕ) :
    iprop(ctx m K c ∗ JF m c ∗ bigSep restRefs fun b => hbm c b (V1 m c))
      ⊢ (|={Set.univ}=> (scopedBufs (c : Thread nD τ) ∗ scopedSems0 (c : Thread nD τ) ∗ Post1 m c) : sProp 𝕄) := by
  rw [bufs_split, sems_split, prod4]
  unfold JF SB
  rw [qs0, qs1]
  iintro ⟨#HC, ⟨⟨H0, Hd0, Hq0⟩, ⟨H1, Hd1, Hq1⟩, HO, Hbar, HKV, H2, H3, Hout, Hs, Hss, Hsr, Hos, Hod⟩, HR⟩
  ihave #HI := (ctx_inv m K c) $$ HC
  ihave HKV := (KV8_all m c) $$ HKV
  icases HKV with ⟨Hk, Hv, Hp0, Hp1⟩
  imod (close_k m c K 0) $$ [Hp0] with Hp0
  · isplitr; · iexact HI
    iexact Hp0
  imod (close_k m c K 1) $$ [Hp1] with Hp1
  · isplitr; · iexact HI
    iexact Hp1
  imod (close_k m c K 2) $$ [H2] with H2
  · isplitr; · iexact HI
    iexact H2
  imod (close_k m c K 3) $$ [H3] with H3
  · isplitr; · iexact HI
    iexact H3
  imod (close m (K (c, none)) (barCell c)) $$ [Hbar] with Hbar
  · isplitr; · iapply (inv_bar m K c) $$ HI
    iexact Hbar
  imodintro
  isplitl [H0 H1 Hs Hout Hk Hv]
  · isplitl [H0]; · iexact H0
    isplitl [H1]; · iexact H1
    isplitl [Hs]; · iexists _; iexact Hs
    isplitl [Hout]; · iexists _; iexact Hout
    isplitl [Hk] <;> iassumption
  isplitl [Hd0 Hd1 Hss Hos Hp0 Hp1 H2 H3]
  · isplitl [Hd0 Hd1 Hss Hos]
    · isplitl [Hd0]; · iexact Hd0
      isplitl [Hd1]; · iexact Hd1
      isplitl [Hss]; · iexact Hss
      iexact Hos
    isplitl [Hp0]; · iexact Hp0
    isplitl [Hp1]; · iexact Hp1
    isplitl [H2]; · iexact H2
    iexact H3
  unfold Post1
  isplitl [Hod Hq0 Hq1 Hsr HR]
  · iapply (held_out m c)
    isplitl [Hod]; · iexact Hod
    isplitl [Hq0 Hq1]
    · iapply (q_split m c).2
      isplitl [Hq0] <;> iassumption
    isplitl [Hsr] <;> iassumption
  isplitl [Hbar]; · iexact Hbar
  iexact HO

theorem region_run {β : Type} (k : PUnit → Prog (Ext F) β) (Q : β → sProp 𝕄) :
    iprop(((boundary (c : Thread nD τ) ∗ Post1 m c) -∗ WD c none (k ⟨⟩) Q) ∗ boundary (c : Thread nD τ) ∗ Pre1 m c ∗ levAts L lv)
      ⊢ WD c none ((Prog.lift (.customCall (Pipeline.entry 0) ())) >>= k) Q := by
  simp only [Prog.lift, Prog.bind_op, Prog.bind_ret]
  unfold Pre1 boundary
  iintro ⟨Hk, ⟨Hb, Hs, Hidle⟩, ⟨Hh, ⟨%K, HG⟩⟩, #HL⟩
  iapply (wp_customCall VL (c : Thread nD τ) none Set.univ (ℓ := Pipeline.entry 0) (a := ()) (Sum.inr 20) (fun _ h => absurd h (by simp))) $$ Hb
  iintro Hb
  iapply (show WD c (some (Sum.inr 20)) (Pipeline.prun (nD := nD) (τ := τ) (pcfgs (F := F)) (0 : Fin 1)) _
      ⊢ WD c (some (Sum.inr 20)) (Pipeline.defs (pcfgs (F := F)) (defs₀ (F := F)) .tc (Pipeline.entry 0) ()) _ by rw [Pipeline.defs_tc_entry]; exact c)
  imod (enter m c K) $$ [Hb Hs Hh HG] with ⟨#HC, HJ, HR⟩
  · isplitl [Hb]; · iexact Hb
    isplitl [Hs]; · iexact Hs
    isplitr; · iexact HL
    isplitl [Hh] <;> iassumption
  iapply (wp_fupd frame _ Set.univ)
  iapply (run_prun m c K)
  isplitr; · iexact HC
  isplitl [HJ]; · iexact HJ
  iintro HF
  imod (leave m c K) $$ [HF HR] with ⟨Hb, Hs, HP⟩
  · isplitr; · iexact HC
    isplitl [HF] <;> iassumption
  imodintro
  rw [kernelExitSpec_apply]
  isplitl [Hs]; · iexact Hs
  iintro Hs
  isplitl [Hb]; · iexact Hb
  iintro Hb
  iapply Hk
  isplitl [Hb Hs Hidle]
  · isplitl [Hb]; · iexact Hb
    isplitl [Hs] <;> iassumption
  iexact HP

end Cert.Proof.Att

end
-- ==== Proof.Launch.lean ====
module

public import proofs.«01_k».proof.Proof.Region
public import proofs.«01_k».proof.Proof.Gen.KernelIdeal.Launch

/-! The launch: the cells and tokens dealt to the devices, and the run of the whole program. -/

@[expose] public section

noncomputable section

namespace Cert.Proof.Att

open Cert.KernelIdeal Cert.KernelIdeal.Gen
open Idealize.ShloMosaic Idealize.ShloMosaic.TcCoe Idealize.ShloMosaic.Rounds Idealize.ShloMosaic.Pipeline Idealize.ShloMosaic.Transfers
open Idealize.SL Idealize.SL.RA Idealize.SL.BI
open scoped Idealize.SL.BI
open Idealize.SL.BI.BIBase Idealize.SL.BI.Laws Idealize.SL.Sem Idealize.SL.ProofMode

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

def semAt : Option (Fin 4 × Fin 4) → SemLoc sig := fun o => match o with | none => .reg bS | some p => .dma (dS p.1 p.2)
theorem semAt_inj : Function.Injective semAt := by decide +kernel
theorem cellAt_snd (p : CellIx) : cellAt p = ((p.1 : Thread nD τ), semAt p.2) := by
  rcases p with ⟨c, _ | ⟨k, g⟩⟩ <;> rfl
theorem cellAt_inj : Function.Injective cellAt := fun p q h => by
  rw [cellAt_snd, cellAt_snd] at h
  exact Prod.ext (congrArg (fun g : GSem nD τ sig => g.1.1) h) (semAt_inj (congrArg Prod.snd h))
def cellEmb : CellIx ↪ GSem nD τ sig := ⟨cellAt, cellAt_inj⟩

theorem bar_inj {c d : Dev nD} (h : barCell c = barCell d) : c = d := congrArg (fun g : GSem nD τ sig => g.1.1) h
theorem d_inj {c d : Dev nD} {k k' g g' : Fin 4} (h : dCell c k g = dCell d k' g') : c = d ∧ k = k' ∧ g = g' := by
  have h := cellAt_inj (a₁ := (c, some (k, g))) (a₂ := (d, some (k', g'))) h
  cases h; exact ⟨rfl, rfl, rfl⟩
theorem bar_ne_d (c d : Dev nD) (k g : Fin 4) : barCell c ≠ dCell d k g := fun h => nomatch congrArg Prod.snd h

def barEmb : Dev nD ↪ GSem nD τ sig := ⟨fun c => barCell c, fun _ _ h => bar_inj h⟩
def scEmb : Dev nD × (Fin 4 × Fin 4) ↪ GSem nD τ sig :=
  ⟨fun p => dCell p.1 p.2.1 p.2.2, fun p q h => by
    obtain ⟨h1, h2, h3⟩ := d_inj h
    exact Prod.ext h1 (Prod.ext h2 h3)⟩

/-- The barrier cells, funded from their counters; the transfer cells, not yet open. -/
abbrev barCells : Finset (GSem nD τ sig) := Finset.univ.map barEmb
abbrev scCells : Finset (GSem nD τ sig) := Finset.univ.map scEmb

/-- Every duty's token: two at a barrier cell, one at a transfer cell. -/
def tokAt (p : Dev nD × (Fin 2 ⊕ (Fin 4 × Fin 4))) : GSem nD τ sig × ℕ × Fin 2 :=
  match p.2 with | .inl d => (barCell p.1, 0, d) | .inr q => (dCell p.1 q.1 q.2, 0, 0)
theorem tokAt_inj : Function.Injective tokAt := by
  rintro ⟨c, d | q⟩ ⟨c', d' | q'⟩ h
  · have h1 : barCell c = barCell c' := congrArg Prod.fst h
    have h2 : d = d' := congrArg (fun t : GSem nD τ sig × ℕ × Fin 2 => t.2.2) h
    rw [bar_inj h1, h2]
  · exact absurd (congrArg Prod.fst h) (bar_ne_d c c' q'.1 q'.2)
  · exact absurd (congrArg Prod.fst h).symm (bar_ne_d c' c q.1 q.2)
  · obtain ⟨h1, h2, h3⟩ := d_inj (show dCell c q.1 q.2 = dCell c' q'.1 q'.2 from congrArg Prod.fst h)
    rw [h1, show q = q' from Prod.ext h2 h3]
def allToks : Finset (GSem nD τ sig × ℕ × Fin 2) := Finset.univ.map ⟨tokAt, tokAt_inj⟩

theorem cells_disjoint : Disjoint (barCells : Finset (GSem nD τ sig)) scCells := by
  rw [Finset.disjoint_left]
  rintro g h₁ h₂
  obtain ⟨c, -, rfl⟩ := Finset.mem_map.mp h₁
  obtain ⟨p, -, h⟩ := Finset.mem_map.mp h₂
  exact bar_ne_d c p.1 p.2.1 p.2.2 h.symm

theorem cells_all : (Finset.univ.map cellEmb : Finset (GSem nD τ sig)) ⊆ barCells ∪ scCells := by
  intro g hg
  obtain ⟨⟨c, o⟩, -, rfl⟩ := Finset.mem_map.mp hg
  cases o with
  | none => exact Finset.mem_union_left _ (Finset.mem_map_of_mem barEmb (Finset.mem_univ c))
  | some p => exact Finset.mem_union_right _ (Finset.mem_map_of_mem scEmb (Finset.mem_univ (c, p)))

theorem invs_of (κ : GSem nD τ sig → ℕ) :
    (bigSep (barCells ∪ scCells) fun g => (cellInv ER (sched m) (κ g) g : sProp 𝕄)) ⊢ invs m fun p => κ (cellAt p) := by
  unfold invs
  refine (bigSep_subset cells_all).trans ?_
  rw [bigSep_map]
  exact BI.Entails.refl _

theorem reached_of (c : Dev nD) : (bigSep barCells fun g => (reached ER g 0 : sProp 𝕄)) ⊢ reached ER (barCell c) 0 :=
  bigSep_elim (Finset.mem_map_of_mem barEmb (Finset.mem_univ c))

/-- The launch's ghost element. -/
def u₀ : UU :=
  (initOf (Pipeline.cells (Pipeline.pin (pcfgs (F := F)) adm) cellOf_inj) (Pipeline.launchToks (Pipeline.pin (pcfgs (F := F)) adm) cellOf_inj),
    (launchOf barCells scCells allToks, 1))

theorem u₀_split (a : UP) (b : UQ) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- The protocol's launch element, held by device `0` until the tokens are dealt. -/
def GL (c : Dev nD) : sProp 𝕄 := if c = 0 then BI.own (ER (launchOf barCells scCells allToks)) else iprop(emp)
theorem GL_all : bigSep Finset.univ (GL (F := F)) = BI.own (ER (launchOf barCells scCells allToks)) := by
  rw [bigSep_univ_at _ (0 : Dev nD), bigSep_congr (s := Finset.univ.erase (0 : Dev nD)) (Ψ := fun _ => (BI.emp : sProp 𝕄))
      fun c hc => by unfold GL; rw [if_neg (Finset.ne_of_mem_erase hc)]; rfl, BI.bigSep_emp_const]
  unfold GL; rw [if_pos rfl]
  exact BI.equiv_iff.mp sep_emp

/-! ## The tokens, each with the device that pays its duty -/

abbrev tok (x : GSem nD τ sig) (d : Fin 2) : sProp 𝕄 := dutyTok ER x 0 d
abbrev tk4 (c : Dev nD) (k : Fin 4) : sProp 𝕄 := bigSep Finset.univ fun g : Fin 4 => tok (F := F) (dCell c k g) 0

theorem toks_eq : bigSep allToks (fun x => (dutyTok ER x.1 x.2.1 x.2.2 : sProp 𝕄))
    = bigSep Finset.univ fun c : Dev nD => iprop((tok (barCell c) 0 ∗ tok (barCell c) 1) ∗ tk4 c 0 ∗ tk4 c 1 ∗ tk4 c 2 ∗ tk4 (F := F) c 3) := by
  unfold allToks; rw [bigSep_map, bigSep_univ_prod]
  exact bigSep_congr fun c _ => by
    rw [bigSep_univ_sum, bigSep_fin_two]
    refine congrArg _ ?_
    exact prod4 fun p : Fin 4 × Fin 4 => tok (F := F) (dCell c p.1 p.2) 0

theorem toks_dealt :
    (bigSep Finset.univ fun c : Dev nD => iprop((tok (barCell c) 0 ∗ tok (barCell c) 1) ∗ tk4 c 0 ∗ tk4 c 1 ∗ tk4 c 2 ∗ tk4 (F := F) c 3))
      ⊢ bigSep Finset.univ fun c : Dev nD => iprop((tok (barCell (ynbr c)) 0 ∗ tok (barCell (xnbr c)) 1) ∗ tk4 c 0 ∗ tk4 (ynbr c) 1 ∗ tk4 c 2 ∗ tk4 (F := F) (xnbr c) 3) := by
  simp only [bigSep_sep']
  rw [bigSep_univ_equiv yEquiv (fun c : Dev nD => tok (F := F) (barCell c) 0), bigSep_univ_equiv xEquiv (fun c : Dev nD => tok (F := F) (barCell c) 1),
    bigSep_univ_equiv yEquiv (fun c : Dev nD => tk4 (F := F) c 1), bigSep_univ_equiv xEquiv (fun c : Dev nD => tk4 (F := F) c 3)]
  exact BI.Entails.refl _

/-! ## The launch credit -/

theorem ynbr_eq {c d : Dev nD} : c = ynbr d ↔ d = ynbr c := ⟨fun h => by rw [h, ynbr_ynbr], fun h => by rw [h, ynbr_ynbr]⟩
theorem xnbr_eq {c d : Dev nD} : c = xnbr d ↔ d = xnbr c := ⟨fun h => by rw [h, xnbr_xnbr], fun h => by rw [h, xnbr_xnbr]⟩

theorem tally_bar (c d : Dev nD) (n : ℕ) : tallyAt (barCell d) () n (barCell c) () = if c = d then n else 0 := by
  by_cases h : c = d
  · subst h; rw [tallyAt_apply, if_pos ⟨rfl, rfl⟩, if_pos rfl]
  · rw [tallyAt_apply, if_neg (fun h' => h (bar_inj h'.1)), if_neg h]
theorem tally_d (c d : Dev nD) (k g g' : Fin 4) (n : ℕ) : tallyAt (dCell d k g') () n (dCell c k g) () = if g' = g then (if c = d then n else 0) else 0 := by
  by_cases h : c = d
  · by_cases h' : g' = g
    · subst h; subst h'; rw [tallyAt_apply, if_pos ⟨rfl, rfl⟩, if_pos rfl, if_pos rfl]
    · rw [tallyAt_apply, if_neg (fun e => h' (d_inj e.1).2.2.symm), if_neg h']
  · rw [tallyAt_apply, if_neg (fun e => h (d_inj e.1).1), if_neg h, ite_self]
theorem tally_ne {g g' : GSem nD τ sig} (h : g' ≠ g) (n : ℕ) : tallyAt g () n g' () = 0 := by
  rw [tallyAt_ne_cell h]; rfl

theorem oweO_zero (d : Dev nD) {x : GSem nD τ sig} (h : ∀ g : Fin 4, x ≠ dCell (xnbr d) 3 g) : oweO d 0 x () = 0 := by
  unfold oweO
  rw [Finset.sum_apply, Finsupp.finset_sum_apply]
  exact Finset.sum_eq_zero fun g _ => by rw [if_pos (by omega), tally_ne (h g)]
theorem oweD_zero (d : Dev nD) {x : GSem nD τ sig} (h : ∀ g : Fin 4, x ≠ dCell (ynbr d) 1 g) : oweD d 0 x () = 0 := by
  unfold oweD
  rw [Finset.sum_apply, Finsupp.finset_sum_apply]
  exact Finset.sum_eq_zero fun g _ => by rw [if_pos (by omega), tally_ne (h g)]
theorem oweO_at (d c : Dev nD) (g : Fin 4) : oweO d 0 (dCell c 3 g) () = if d = xnbr c then N2 else 0 := by
  unfold oweO
  rw [Finset.sum_apply, Finsupp.finset_sum_apply, Finset.sum_congr rfl fun g' _ => by rw [if_pos (by omega), tally_d c (xnbr d) 3 g g'],
    Finset.sum_ite_eq' Finset.univ g, if_pos (Finset.mem_univ _)]
  exact if_congr xnbr_eq rfl rfl
theorem oweD_at (d c : Dev nD) (g : Fin 4) : oweD d 0 (dCell c 1 g) () = if d = ynbr c then N1 else 0 := by
  unfold oweD
  rw [Finset.sum_apply, Finsupp.finset_sum_apply, Finset.sum_congr rfl fun g' _ => by rw [if_pos (by omega), tally_d c (ynbr d) 1 g g'],
    Finset.sum_ite_eq' Finset.univ g, if_pos (Finset.mem_univ _)]
  exact if_congr ynbr_eq rfl rfl

theorem O₀_at (d : Dev nD) (x : GSem nD τ sig) : O₀ d x () = oweO d 0 x () + oweD d 0 x () + tallyAt (barCell (xnbr d)) () 1 x () + tallyAt (barCell (ynbr d)) () 1 x () := rfl

theorem owed_bar (d c : Dev nD) : O₀ d (barCell c) () = (if d = xnbr c then 1 else 0) + (if d = ynbr c then 1 else 0) := by
  rw [O₀_at, oweO_zero d (fun g => bar_ne_d _ _ _ _), oweD_zero d (fun g => bar_ne_d _ _ _ _), tally_bar, tally_bar, zero_add, zero_add]
  exact congrArg₂ (· + ·) (if_congr xnbr_eq rfl rfl) (if_congr ynbr_eq rfl rfl)
theorem owed_1 (d c : Dev nD) (g : Fin 4) : O₀ d (dCell c 1 g) () = if d = ynbr c then N1 else 0 := by
  rw [O₀_at, oweO_zero d (fun g' h => absurd (d_inj h).2.1 (by decide)), oweD_at, tally_ne (bar_ne_d _ _ _ _).symm, tally_ne (bar_ne_d _ _ _ _).symm, zero_add, add_zero, add_zero]
theorem owed_3 (d c : Dev nD) (g : Fin 4) : O₀ d (dCell c 3 g) () = if d = xnbr c then N2 else 0 := by
  rw [O₀_at, oweD_zero d (fun g' h => absurd (d_inj h).2.1 (by decide)), oweO_at, tally_ne (bar_ne_d _ _ _ _).symm, tally_ne (bar_ne_d _ _ _ _).symm, add_zero, add_zero, add_zero]

theorem launch_one {x : GSem nD τ sig} {n : ℕ} (h : ∑ d : Dev nD, O₀ d x () = n) :
    tallyOn x (launchCredit (Pipeline.owing O₀) 0 x) = (tallyAt x () n : CellTallies nD τ sig Unit) := by
  unfold tallyAt; refine congrArg _ (Finsupp.ext fun u => ?_); cases u
  rw [Pipeline.launchCredit_owing, Finsupp.single_eq_same, h]
theorem launch_bar (c : Dev nD) : ∑ d : Dev nD, O₀ d (barCell c) () = 2 := by
  rw [Finset.sum_congr rfl fun d _ => owed_bar d c, Finset.sum_add_distrib, Finset.sum_ite_eq' Finset.univ (xnbr c) fun _ => 1,
    Finset.sum_ite_eq' Finset.univ (ynbr c) fun _ => 1, if_pos (Finset.mem_univ _), if_pos (Finset.mem_univ _)]
theorem launch_1 (c : Dev nD) (g : Fin 4) : ∑ d : Dev nD, O₀ d (dCell c 1 g) () = N1 := by
  rw [Finset.sum_congr rfl fun d _ => owed_1 d c g, Finset.sum_ite_eq' Finset.univ (ynbr c) fun _ => N1, if_pos (Finset.mem_univ _)]
theorem launch_3 (c : Dev nD) (g : Fin 4) : ∑ d : Dev nD, O₀ d (dCell c 3 g) () = N2 := by
  rw [Finset.sum_congr rfl fun d _ => owed_3 d c g, Finset.sum_ite_eq' Finset.univ (xnbr c) fun _ => N2, if_pos (Finset.mem_univ _)]

def credEmb : Unit ⊕ (Fin 4 ⊕ Fin 4) ↪ SemLoc sig :=
  ⟨fun x => match x with | .inl _ => .reg bS | .inr (.inl g) => .dma (dS 1 g) | .inr (.inr g) => .dma (dS 3 g), by decide +kernel⟩

theorem creds (c : Dev nD) : (Pipeline.launchCred O₀ c : sProp 𝕄)
    ⊢ iprop(cred (tallyAt (barCell c) () 2) ∗ (bigSep Finset.univ fun g : Fin 4 => cred (tallyAt (dCell c 1 g) () N1))
      ∗ bigSep Finset.univ fun g : Fin 4 => cred (tallyAt (dCell c 3 g) () N2)) := by
  unfold Pipeline.launchCred
  refine (bigSep_subset (Finset.subset_univ (Finset.univ.map credEmb))).trans ?_
  rw [bigSep_map, bigSep_univ_sum, bigSep_univ_sum]
  refine sep_mono ?_ (sep_mono (bigSep_mono fun g _ => ?_) (bigSep_mono fun g _ => ?_))
  · refine (bigSep_elim (Finset.mem_univ ())).trans ?_
    exact Entails.of_eq (congrArg cred (launch_one (launch_bar c)))
  · exact Entails.of_eq (congrArg cred (launch_one (launch_1 c g)))
  · exact Entails.of_eq (congrArg cred (launch_one (launch_3 c g)))

/-! ## Dealing -/

/-- What every device may consult. -/
def records (κ : GSem nD τ sig → ℕ) : sProp 𝕄 :=
  iprop((bigSep (barCells ∪ scCells) fun g => cellInv ER (sched m) (κ g) g) ∗ bigSep barCells fun g => reached ER g 0)
instance records_persistent (κ : GSem nD τ sig → ℕ) : BI.Persistent (records m κ) := by unfold records; infer_instance

/-- What one device gets of the protocol. -/
def share (c : Dev nD) : sProp 𝕄 :=
  iprop(atPos ER (barCell c) 0 ∅ 0 ∗ (bigSep Finset.univ fun p : Fin 4 × Fin 4 => openTok ER (dCell c p.1 p.2))
    ∗ (tok (barCell (ynbr c)) 0 ∗ tok (barCell (xnbr c)) 1) ∗ tk4 c 0 ∗ tk4 (ynbr c) 1 ∗ tk4 c 2 ∗ tk4 (F := F) (xnbr c) 3)
/-- And what it has of its own. -/
def purse (c : Dev nD) : sProp 𝕄 :=
  iprop(StableHlo.held (c : Thread nD τ) (Pipeline.ucRefs τ sig) (V0 m c) ∗ owes (c : Thread nD τ) (O₀ c) ∅
    ∗ cred (tallyAt (barCell c) () 2) ∗ (bigSep Finset.univ fun g : Fin 4 => cred (tallyAt (dCell c 1 g) () N1))
    ∗ bigSep Finset.univ fun g : Fin 4 => cred (tallyAt (dCell c 3 g) () N2))

/-- What rides along the host stretches: the protocol's part before the call, the settled counters after it. -/
def EE : Fin 2 → Dev nD → sProp 𝕄 := fun i c => match i with
  | 0 => iprop(∃ K, Gh m c K)
  | 1 => iprop(semVal (barCell c) 0 ∗ ∃ W, owes (c : Thread nD τ) (0 : CellTallies nD τ sig Unit) W)

abbrev T₀ (c : Dev nD) : sProp 𝕄 := iprop(StableHlo.held (c : Thread nD τ) (Pipeline.ucRefs τ sig) (V0 m c) ∗ EE m 0 c)
abbrev Tₙ (c : Dev nD) : sProp 𝕄 := iprop(StableHlo.held (c : Thread nD τ) (Pipeline.ucRefs τ sig) (V3 m (outs m) c) ∗ semVal (barCell c) 0)

theorem T₀_intro (κ : GSem nD τ sig → ℕ) (c : Dev nD) : iprop(records m κ ∗ (share (F := F) c ∗ purse m c)) ⊢ T₀ m c := by
  unfold records share purse T₀ EE
  dsimp only
  unfold Gh Lin
  iintro ⟨⟨#HI, #HR⟩, ⟨Hat, Hop, ⟨HtY, HtX⟩, H0, H1, H2, H3⟩, Hh, HO, Hcb, Hc1, Hc3⟩
  isplitl [Hh]; · iexact Hh
  iexists (fun p => κ (cellAt p))
  isplitr; · iapply (invs_of m κ); iexact HI
  isplitl [Hop]; · iexact Hop
  isplitl [HO]; · iexists ∅; iexact HO
  isplitr; · iapply (reached_of (F := F) (ynbr c)); iexact HR
  isplitr; · iapply (reached_of (F := F) (xnbr c)); iexact HR
  isplitl [HtY]; · iexact HtY
  isplitl [HtX]; · iexact HtX
  isplitl [Hcb]; · iexact Hcb
  isplitl [Hat]; · iexact Hat
  unfold D4
  iapply bigSep_pair; isplitl [H0]; · iexact H0
  iapply bigSep_pair; isplitl [H1]; · iexact H1
  iapply bigSep_pair; isplitl [H2]; · iexact H2
  iapply bigSep_pair; isplitl [H3]; · iexact H3
  iapply bigSep_pair; isplitl [Hc1]; · iexact Hc1
  iexact Hc3

theorem unscoped_bar (c : Dev nD) : (unscopedSems0 c : sProp 𝕄) = semVal (barCell c) 0 := by
  unfold unscopedSems0
  rw [show (Finset.univ.filter fun sm : SemLoc sig => ¬ sm.isScoped .tc) = {SemLoc.reg bS} from by decide +kernel, bigSep_singleton]

theorem init :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ GL c)) ∗ levAts L lv)
      ⊢ (|={Set.univ}=> bigSep Finset.univ (T₀ m) : sProp 𝕄) := by
  have hcore (c : Dev nD) : iprop(unscopedBufs c (fun b => m ((c.tc : Thread nD τ).loc b)) ∗ unscopedSems0 c
        ∗ owes (c.tc : Thread nD τ) (O₀ c) ∅ ∗ Pipeline.launchCred O₀ c ∗ prngReg c (ρ c) ∗ GL c)
      ⊢ (iprop(purse m c ∗ (semVal (barCell c) 0 ∗ GL c)) : sProp 𝕄) := by
    rw [show unscopedBufs c (fun b => m ((c.tc : Thread nD τ).loc b)) = StableHlo.held (c : Thread nD τ) (Pipeline.ucRefs τ sig) (V0 m c)
      from Pipeline.unscopedBufs_held (Ix := Unit) (Name := ℕ) (U := UU) (Lvl := ℕ) c (V0 m c), unscoped_bar]
    unfold purse
    iintro ⟨Hh, Hus, HO, Hcr, Hp, HG⟩
    ihave Hc := (creds (F := F) c) $$ Hcr
    icases Hc with ⟨Hcb, Hc1, Hc3⟩
    isplitl [Hh HO Hcb Hc1 Hc3]
    · isplitl [Hh]; · iexact Hh
      isplitl [HO]; · iexact HO
      isplitl [Hcb]; · iexact Hcb
      isplitl [Hc1] <;> iassumption
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep scCells (fun g => (openTok ER g : sProp 𝕄))
      ⊢ bigSep Finset.univ (fun c : Dev nD => bigSep Finset.univ fun p : Fin 4 × Fin 4 => (openTok ER (dCell c p.1 p.2) : sProp 𝕄)) :=
    Entails.of_eq (by rw [bigSep_map, bigSep_univ_prod]; rfl)
  iintro ⟨H, -⟩
  ihave H' := (show (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ GL c))
      ⊢ (bigSep Finset.univ fun c : Dev nD => iprop(purse m c ∗ (semVal (barCell c) 0 ∗ GL c)) : sProp 𝕄) from bigSep_mono fun c _ => hcore c) $$ H
  ihave H2 := bigSep_unpair $$ H'; icases H2 with ⟨HB, H3⟩
  ihave H4 := bigSep_unpair $$ H3; icases H4 with ⟨Hv, HG⟩
  ihave Hu := (Entails.of_eq (GL_all (F := F))) $$ HG
  imod (Rounds.fund_launch ER (sched m) cells_disjoint (fun g _ h => h) allToks) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(share (F := F) c ∗ purse m c)) fun c _ => T₀_intro m κ c)
  isplitr
  · unfold records
    isplitr; · iexact Hinv
    iexact Hr
  iapply bigSep_pair
  isplitr [HB]
  · unfold share
    iapply bigSep_pair; isplitl [Hat]; · iapply hat $$ Hat
    iapply bigSep_pair; isplitl [Hopen]; · iapply hopen $$ Hopen
    iapply (toks_dealt (F := F))
    iapply (Entails.of_eq (toks_eq (F := F))) $$ Htok
  · iexact HB

/-! ## The run -/

/-- The program's one grid has no proof record of its own: the call is run as a host step. -/
def noDat (c : Dev nD) : Pipeline.Dat τ (Elt F) Unit ℕ UU ℕ cfg0 c where
  A _ := fun _ => Classical.arbitrary _
  after _ _ := fun _ => Classical.arbitrary _
  Φ _ := BI.emp
  q _ := fullShare
  owed _ := 0
def pdats : (p : Fin 1) → (c : Dev nD) → Pipeline.Dat τ (Elt F) Unit ℕ UU ℕ (Pipeline.pin (pcfgs (F := F)) adm p) c
  | 0 => noDat

/-- The call. -/
def callSeg : HostSeg (Ix := Unit) (Name := ℕ) (U := UU) (Lvl := ℕ) (pcfgs (F := F)) defs₀ 𝒱₀ L lv where
  prog := Prog.lift (.customCall (Pipeline.entry 0) ())
  pre := Pre1 m
  post := Post1 m
  run := region_run m

def mainSegs (c : Dev nD) : List (Pipeline.Seg (pcfgs (F := F)) adm (pdats (F := F)) () defs₀ 𝒱₀ L lv) :=
  [.host (seg0 m 𝒱₀ L lv (EE m) c), .host (callSeg m), .host (seg2 m (outs m) 𝒱₀ L lv (EE m))]

theorem unscoped_eq : ∀ sm : SemLoc sig, sm.isScoped .tc = false → sm = .reg bS := by decide +kernel

set_option backward.isDefEq.respectTransparency.types false in
/-- Every weakly fair execution ends; each device's unscoped buffers then hold what the host operations and the call give
    them, and every semaphore of the machine reads zero. -/
theorem run_main : θ_run defs (onTc (τ := τ) (main (F := F))) ⟨m, fun _ => 0, ρ⟩
    (fun r => (∀ c : Dev nD, ∀ b ∈ Pipeline.ucRefs τ sig, r.2.mem (c, b) = V3 m (outs m) c b) ∧ r.2.sem = fun _ => 0) :=
  Pipeline.θ_run_regions_kit_dev_sems (pcfgs (F := F)) adm (pdats (F := F)) () cellOf_inj EP defs₀ 𝒱₀ L lv m ρ main (mainSegs m)
    (fun c Q => by
      rewrite [main_chain c, Pipeline.Seg.run_eq_chain,
        show (mainSegs m c).map Pipeline.Seg.prog = [
          StableHlo.seq (hostOps0 c),
          Prog.lift (.customCall (Pipeline.entry 0) ()),
          StableHlo.seq hostOps1 ] from rfl]
      dsimp (config := { failIfUnchanged := false }) only
      exact .rfl)
    (fun c => by simp only [mainSegs, Pipeline.Seg.pipes_host, Pipeline.Seg.pipes_nil]; exact List.nodup_nil)
    (O₀ := O₀) (hL := L_of_ne) (G := GL) (u₀ := u₀ (F := F))
    (hu₀ := by
      unfold u₀
      iintro Hu
      ihave H := (u₀_split (F := F) _ _) $$ Hu
      icases H with ⟨HP, HX⟩
      imodintro
      isplitl [HP]; · iexact HP
      rw [GL_all]; iexact HX)
    (T₀ := T₀ m) (Tₙ := Tₙ m)
    (hch := fun c => ⟨.rfl, .rfl, .rfl, by
      show iprop(StableHlo.held (c : Thread nD τ) (Pipeline.ucRefs τ sig) (V3 m (outs m) c)
          ∗ (semVal (barCell c) 0 ∗ ∃ W, owes (c : Thread nD τ) (0 : CellTallies nD τ sig Unit) W))
        ⊢ iprop(Tₙ m c ∗ ∃ W, owes (c : Thread nD τ) (0 : CellTallies nD τ sig Unit) W)
      iintro ⟨Hh, Hb0, HO⟩
      isplitr [HO]
      · isplitl [Hh] <;> iassumption
      · iexact HO⟩)
    (hinit := init m ρ)
    (QY := fun c s => (∀ b ∈ Pipeline.ucRefs τ sig, s.mem (c, b) = V3 m (outs m) c b) ∧ s.sem (barCell c) = 0)
    (hfin := fun c s' => by
      dsimp only [Tₙ]
      unfold StableHlo.held
      iintro ⟨⟨Hh, Hb0⟩, HSI⟩
      icombine HSI Hb0 gives %hb
      ihave Hr := (pointsTo_read_all (Pipeline.ucRefs τ sig) (fun b => ((c : Thread nD τ).1, b)) (V3 m (outs m) c) s') $$ [Hh HSI]
      · isplitl [Hh] <;> iassumption
      icases Hr with ⟨%h, HSI⟩
      imodintro
      isplitr
      · ipureintro
        exact ⟨h, by simpa using hb⟩
      iexact HSI)
    (hQ := fun s h hs => ⟨fun c => (h c).1, sem_eq_zero hs fun c sm hsm => by
        obtain rfl := unscoped_eq sm hsm
        exact (h c).2⟩)

theorem uc {b : Ref sig .tc} (h : ¬ (Proc.devRef .tc b : DevRef τ sig).isScoped) : (Proc.devRef .tc b : DevRef τ sig) ∈ Pipeline.ucRefs τ sig :=
  Finset.mem_filter.mpr ⟨StableHlo.devRef_mem_tcRefs b, h⟩

/-- What a claim reads of the run: the arguments as they were, the result as computed. -/
theorem run_read : θ_run defs (onTc (τ := τ) (main (F := F))) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_v26) = V3 m (outs m) c main_v26) ∧ r.2.sem = fun _ => 0) :=
  (θ_run defs _ _).mono (fun r h => ⟨fun c =>
    ⟨(h.1 c _ (uc (b := main_arg0) (by decide))).trans (V3_main_arg0 m (outs m) c),
      (h.1 c _ (uc (b := main_arg1) (by decide))).trans (V3_main_arg1 m (outs m) c),
      (h.1 c _ (uc (b := main_arg2) (by decide))).trans (V3_main_arg2 m (outs m) c),
      h.1 c _ (uc (b := main_v26) (by decide))⟩, h.2⟩) (run_main m ρ)

/-- The frame. -/
theorem run_frame : θ_run defs (onTc (τ := τ) (main (F := F))) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c => ⟨(h.1 c).1, (h.1 c).2.1, (h.1 c).2.2.1⟩, h.2⟩) (run_read m ρ)

end Cert.Proof.Att

end
-- ==== Proof.Softmax.lean ====
module

public import Idealize.ShloMosaic.Lib.Pointwise

/-! The softmax identity over the extended reals: subtracting the row's maximum and dividing each weight, or weighting first
and dividing once at the end, give one value, whatever the values weighted are. -/

@[expose] public section

noncomputable section

namespace Cert.Proof.Att

open Idealize.ShloMosaic

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- A real factor that is not negative distributes over a sum of any extended reals. -/
theorem sum_mul_real {ι : Type} (s : Finset ι) (f : ι → EReal) {w : ℝ} (hw : 0 ≤ w) : ∑ i ∈ s, f i * (w : EReal) = (∑ i ∈ s, f i) * (w : EReal) := by
  classical
  induction s using Finset.induction_on with
  | empty => simp
  | insert a s h ih =>
    rw [Finset.sum_insert h, Finset.sum_insert h, ih, EReal.right_distrib_of_nonneg_of_ne_top (EReal.coe_nonneg.mpr hw) (EReal.coe_ne_top w)]

theorem div_real (x : EReal) {z : ℝ} (hz : z ≠ 0) : Ideal.div x (z : EReal) = x * ((z⁻¹ : ℝ) : EReal) := by
  unfold Ideal.div
  rw [if_neg (by exact_mod_cast hz), EReal.coe_inv]

/-- The maximum of finitely many reals, at least one, is a real. -/
theorem fold_max_real {ι : Type} [Fintype ι] [Nonempty ι] (s : ι → ℝ) : ∃ μ : ℝ, (Finset.univ.fold max (⊥ : EReal) fun k => (s k : EReal)) = (μ : EReal) := by
  obtain ⟨i⟩ := ‹Nonempty ι›
  refine ⟨_, (EReal.coe_toReal ?_ ?_).symm⟩
  · exact ne_of_lt ((Finset.fold_max_lt _).mpr ⟨bot_lt_top, fun k _ => EReal.coe_lt_top _⟩)
  · exact ne_of_gt ((Finset.lt_fold_max _).mpr (.inr ⟨i, Finset.mem_univ _, EReal.bot_lt_coe _⟩))

/-- The identity. -/
theorem softmax_eq {ι : Type} [Fintype ι] [Nonempty ι] (s : ι → ℝ) (v : ι → EReal) :
    (∑ k, v k * Ideal.div (Ideal.exp ((s k : EReal) - Finset.univ.fold max (⊥ : EReal) fun k => (s k : EReal)))
        (∑ j, Ideal.exp ((s j : EReal) - Finset.univ.fold max (⊥ : EReal) fun k => (s k : EReal))))
      = Ideal.div (∑ k, Ideal.exp (s k : EReal) * v k) (∑ k, Ideal.exp (s k : EReal)) := by
  obtain ⟨μ, hμ⟩ := fold_max_real s
  have hZ : (0 : ℝ) < ∑ k, Real.exp (s k) := Finset.sum_pos (fun k _ => Real.exp_pos _) Finset.univ_nonempty
  have hZ' : (0 : ℝ) < ∑ k, Real.exp (s k - μ) := Finset.sum_pos (fun k _ => Real.exp_pos _) Finset.univ_nonempty
  have e : ∀ k, Ideal.exp ((s k : EReal) - (μ : EReal)) = ((Real.exp (s k - μ) : ℝ) : EReal) := fun k => by
    rw [← EReal.coe_sub, Ideal.exp_coe]
  simp only [hμ, e, Ideal.exp_coe]
  rw [← coe_sum, ← coe_sum, div_real _ hZ.ne', ← sum_mul_real _ _ (inv_nonneg.mpr hZ.le)]
  refine Finset.sum_congr rfl fun k _ => ?_
  rw [div_real _ hZ'.ne', ← EReal.coe_mul, mul_comm ((Real.exp (s k) : ℝ) : EReal) (v k), mul_assoc, ← EReal.coe_mul]
  congr 2
  have : ∑ j, Real.exp (s j - μ) = (∑ j, Real.exp (s j)) * (Real.exp μ)⁻¹ := by
    rw [Finset.sum_mul]; exact Finset.sum_congr rfl fun j _ => by rw [Real.exp_sub, div_eq_mul_inv]
  rw [this, Real.exp_sub]
  have hμ' := (Real.exp_pos μ).ne'
  field_simp

/-- A score from real queries and keys, scaled before the product or after it. -/
theorem score_eq {ι : Type} [Fintype ι] (q k : ι → ℝ) (c : ℝ) :
    (∑ e, (q e : EReal) * (c : EReal) * (k e : EReal)) = (((∑ e, q e * k e) * c : ℝ) : EReal) := by
  rw [Finset.sum_mul, coe_sum]
  exact Finset.sum_congr rfl fun e _ => by rw [← EReal.coe_mul, ← EReal.coe_mul]; congr 1; ring

theorem score_eq' {ι : Type} [Fintype ι] (q k : ι → ℝ) (c : ℝ) :
    (∑ e, (q e : EReal) * (k e : EReal)) * (c : EReal) = (((∑ e, q e * k e) * c : ℝ) : EReal) := by
  rw [EReal.coe_mul, coe_sum]
  exact congrArg (· * (c : EReal)) (Finset.sum_congr rfl fun e _ => by rw [← EReal.coe_mul])

end Cert.Proof.Att

end
-- ==== Proof.ValueKernel.lean ====
module

public import proofs.«01_k».proof.Proof.Launch
public import proofs.«01_k».proof.Proof.Softmax
public import Idealize.ShloMosaic.Lib.StableHlo.RunClose
public import Idealize.ShloMosaic.Lib.DynamicIndex

/-! What the kernel leaves, element by element. -/

@[expose] public section

set_option maxRecDepth 16384

noncomputable section

namespace Cert.Proof.Att

open Cert.KernelIdeal Cert.KernelIdeal.Gen
open Idealize.ShloMosaic Idealize.ShloMosaic.TcCoe

/-- The scale. -/
abbrev cK : EReal := Ideal.ofBits .f32 0x3DB504F3#32
/-- The key half of a row of keys and values, and the value half. -/
def keyIx (k : Fin 1024) (e : Fin 128) : S1x1024x256.Idx := ix3 0 k ⟨e.val, by omega⟩
def valIx (k : Fin 1024) (d : Fin 128) : S1x1024x256.Idx := ix3 0 k ⟨128 + d.val, by omega⟩
/-- One head's result at an element. -/
theorem resRow_apply (q : Vec Ideal S1x1024x128 .f32) (kv kvo : Vec Ideal S1x1024x256 .bf16) (r : Fin 1024) (d : Fin 128) :
    resRow q kv kvo (ix3 0 r d)
      = Ideal.div ((∑ k : Fin 1024, Ideal.exp (∑ e : Fin 128, q (ix3 0 r e) * cK * kv (keyIx k e)) * kv (valIx k d))
            + ∑ k : Fin 1024, Ideal.exp (∑ e : Fin 128, q (ix3 0 r e) * cK * kvo (keyIx k e)) * kvo (valIx k d))
          ((∑ k : Fin 1024, Ideal.exp (∑ e : Fin 128, q (ix3 0 r e) * cK * kv (keyIx k e)))
            + ∑ k : Fin 1024, Ideal.exp (∑ e : Fin 128, q (ix3 0 r e) * cK * kvo (keyIx k e))) := by
  pointwise [resRow, k0_pay11, k0_pay12, k0_pay13, keyIx, valIx]

/-- The same, its queries, keys and values named. -/
theorem resRow_of (q : Vec Ideal S1x1024x128 .f32) (kv kvo : Vec Ideal S1x1024x256 .bf16) (r : Fin 1024) (d : Fin 128)
    (Q : Fin 128 → EReal) (K K' : Fin 1024 → Fin 128 → EReal) (V V' : Fin 1024 → EReal) (hq : ∀ e, q (ix3 0 r e) = Q e)
    (hk : ∀ k e, kv (keyIx k e) = K k e) (hk' : ∀ k e, kvo (keyIx k e) = K' k e) (hv : ∀ k, kv (valIx k d) = V k) (hv' : ∀ k, kvo (valIx k d) = V' k) :
    resRow q kv kvo (ix3 0 r d)
      = Ideal.div ((∑ k : Fin 1024, Ideal.exp (∑ e : Fin 128, Q e * cK * K k e) * V k) + ∑ k : Fin 1024, Ideal.exp (∑ e : Fin 128, Q e * cK * K' k e) * V' k)
          ((∑ k : Fin 1024, Ideal.exp (∑ e : Fin 128, Q e * cK * K k e)) + ∑ k : Fin 1024, Ideal.exp (∑ e : Fin 128, Q e * cK * K' k e)) := by
  rw [resRow_apply]
  simp only [hq, hk, hk', hv, hv']

variable (m : (ℓ : Loc nD τ sig) → Buf (Elt Ideal) ℓ) (c : Dev nD)

/-- The first of the device's heads, as the host computes it. -/
def w5 : IVec S_ 32 := muli (Host.remui (Host.divui (constantI S_ 32 (Dev.word c)) (constantI S_ 32 2#32)) (constantI S_ 32 2#32)) (constantI S_ 32 8#32)
def w9 : IVec S_ 32 := select (cmpi .slt (w5 c) (constantI S_ 32 0#32)) (addi (w5 c) (constantI S_ 32 16#32)) (w5 c)
def half (x : FVec Ideal S1x1024x16x128 .f32) : FVec Ideal S1024x8x128 .f32 :=
  Host.dynamicSlice S1024x8x128 (shapeCast S1024x16x128 x shapeCasts_S1x1024x16x128_S1024x16x128)
    (fun k => ((![constantI S_ 32 0#32, w9 c, constantI S_ 32 0#32] : Fin 3 → IVec S_ 32) k (Shape.Idx.first h_S_)).toInt) sliceFits_S1024x16x128_S1024x8x128

theorem QA_eq : QA m c = transpose S8x1024x128 [1, 0, 2] (half c (m ((c.tc : Thread nD τ).loc main_arg0))) transposes_S1024x8x128_S8x1024x128_1_0_2 := by
  unfold QA VA
  after_results_simp_entrywise
  rfl
theorem V16_eq : VA m c main_v16 = half c (m ((c.tc : Thread nD τ).loc main_arg1)) := by
  unfold VA
  after_results_simp_entrywise
  rfl
theorem V21_eq : VA m c main_v21 = half c (m ((c.tc : Thread nD τ).loc main_arg2)) := by
  unfold VA
  after_results_simp_entrywise
  rfl
def K16 : FVec Ideal S1024x8x128 .f32 := VA m c main_v16
def V21 : FVec Ideal S1024x8x128 .f32 := VA m c main_v21
theorem V23_eq : SA m c = (truncf .bf16 (concatenate S1024x8x256 2 [⟨S1024x8x128, K16 m c⟩, ⟨S1024x8x128, V21 m c⟩] concatenates_S1024x8x128_S1024x8x128_S1024x8x256_d2) bitsLt_bf16_f32 : FVec Ideal S1024x8x256 .bf16) := by
  unfold SA K16 V21 VA
  simp only [StableHlo.after_cons, StableHlo.after_nil]
  rw [StableHlo.unary_result, StableHlo.binary_result]
  repeat (first
    | (rw [StableHlo.unary_result_ne]; rotate_left; decide)
    | (rw [StableHlo.binary_result_ne]; rotate_left; decide))
theorem SA_eq : SA m c = truncf .bf16 (concatenate S1024x8x256 2 [⟨S1024x8x128, half c (m ((c.tc : Thread nD τ).loc main_arg1))⟩, ⟨S1024x8x128, half c (m ((c.tc : Thread nD τ).loc main_arg2))⟩] concatenates_S1024x8x128_S1024x8x128_S1024x8x256_d2) bitsLt_bf16_f32 := by
  rw [V23_eq, show K16 m c = _ from V16_eq m c, show V21 m c = _ from V21_eq m c]

theorem start_eq : ∀ c : Dev nD, (w9 c (Shape.Idx.first h_S_)).toInt = ((8 * (c.val / 2) : ℕ) : ℤ) := by
  decide +kernel

/-- A device's half of the heads, element by element. -/
theorem half_apply (x : FVec Ideal S1x1024x16x128 .f32) (r : Fin 1024) (s : Fin 8) (e : Fin 128) :
    half c x (ix3 r s e) = x (ix4 0 r ⟨8 * (c.val / 2) + s.val, by have := div_lt c; omega⟩ e) := by
  have hs := start_eq c
  have hc := div_lt c
  unfold half
  refine (congrFun (Host.dynamicSlice_eq_extractStridedSlice S1024x8x128 (shapeCast S1024x16x128 x shapeCasts_S1x1024x16x128_S1024x16x128)
    (fun k => ((![constantI S_ 32 0#32, w9 c, constantI S_ 32 0#32] : Fin 3 → IVec S_ 32) k (Shape.Idx.first h_S_)).toInt) ![0, 8 * (c.val / 2), 0]
    sliceFits_S1024x16x128_S1024x8x128 ⟨rfl, fun a => by fin_cases a <;> simp <;> omega⟩
    (fun a => by fin_cases a <;> first | rfl | exact hs)) (ix3 r s e)).trans ?_
  pointwise []

/-- Head `s` of a device's half, among all the heads. -/
abbrev hd (s : Fin 8) : Fin 16 := ⟨8 * (c.val / 2) + s.val, by have := div_lt c; omega⟩

/-- The device's arguments. -/
abbrev AQ : FVec Ideal S1x1024x16x128 .f32 := m ((c.tc : Thread nD τ).loc main_arg0)
abbrev AK : FVec Ideal S1x1024x16x128 .f32 := m ((c.tc : Thread nD τ).loc main_arg1)
abbrev AV : FVec Ideal S1x1024x16x128 .f32 := m ((c.tc : Thread nD τ).loc main_arg2)

theorem q_apply (s : Fin 8) (r : Fin 1024) (e : Fin 128) : rowQ (QA m c) s (ix3 0 r e) = AQ m c (ix4 0 r (hd c s) e) := by
  refine Eq.trans ?_ (half_apply c (AQ m c) r s e)
  rw [QA_eq]
  unfold rowQ
  pointwise []
theorem k_apply (s : Fin 8) (r : Fin 1024) (e : Fin 128) : rowK (KV m c) s (keyIx r e) = AK m c (ix4 0 r (hd c s) e) := by
  refine Eq.trans ?_ (half_apply c (AK m c) r s e)
  unfold rowK KV kvT
  rw [SA_eq]
  pointwise [keyIx]
theorem v_apply (s : Fin 8) (r : Fin 1024) (e : Fin 128) : rowK (KV m c) s (valIx r e) = AV m c (ix4 0 r (hd c s) e) := by
  refine Eq.trans ?_ (half_apply c (AV m c) r s e)
  unfold rowK KV kvT
  rw [SA_eq]
  pointwise [valIx]

/-- Row `h` of the result's device, and its partner along y. -/
abbrev oD (h : Fin 16) : Dev nD := own c h.val
theorem own_hd : ∀ (c : Dev nD) (h : Fin 16), hd (own c h.val) ⟨h.val % 8, Nat.mod_lt _ (by decide)⟩ = h := by decide
theorem own_hd' : ∀ (c : Dev nD) (h : Fin 16), hd (ynbr (own c h.val)) ⟨h.val % 8, Nat.mod_lt _ (by decide)⟩ = h := by decide

/-- The weight of a key of device `d` in row `r` of head `h` on device `o`. -/
def wt (o d : Dev nD) (h : Fin 16) (r k : Fin 1024) : EReal := Ideal.exp (∑ e : Fin 128, AQ m o (ix4 0 r h e) * cK * AK m d (ix4 0 k h e))

theorem OUT_apply (h : Fin 16) (r : Fin 1024) (d : Fin 128) :
    OUT m c (ix3 h r d)
      = Ideal.div ((∑ k : Fin 1024, wt m (own c h.val) (own c h.val) h r k * AV m (own c h.val) (ix4 0 k h d))
            + ∑ k : Fin 1024, wt m (own c h.val) (ynbr (own c h.val)) h r k * AV m (ynbr (own c h.val)) (ix4 0 k h d))
          ((∑ k : Fin 1024, wt m (own c h.val) (own c h.val) h r k) + ∑ k : Fin 1024, wt m (own c h.val) (ynbr (own c h.val)) h r k) := by
  have e : OUT m c (ix3 h r d) = RES m (own c h.val) ⟨h.val % 8, Nat.mod_lt _ (by decide)⟩ (ix3 0 r d) := by
    unfold OUT
    refine congrArg (RES m (own c h.val) ⟨h.val % 8, Nat.mod_lt _ (by decide)⟩) ?_
    funext a
    match a with
    | ⟨0, _⟩ => rfl
    | ⟨1, _⟩ => rfl
    | ⟨2, _⟩ => rfl
  rw [e]
  unfold RES
  exact resRow_of _ _ _ r d (fun e => AQ m (own c h.val) (ix4 0 r h e)) (fun k e => AK m (own c h.val) (ix4 0 k h e)) (fun k e => AK m (ynbr (own c h.val)) (ix4 0 k h e))
    (fun k => AV m (own c h.val) (ix4 0 k h d)) (fun k => AV m (ynbr (own c h.val)) (ix4 0 k h d))
    (fun e => (q_apply m _ _ r e).trans (by rw [own_hd])) (fun k e => (k_apply m _ _ k e).trans (by rw [own_hd])) (fun k e => (k_apply m _ _ k e).trans (by rw [own_hd']))
    (fun k => (v_apply m _ _ k d).trans (by rw [own_hd])) (fun k => (v_apply m _ _ k d).trans (by rw [own_hd']))

/-- The kernel's result, element by element. -/
theorem V3_apply (h : Fin 16) (r : Fin 1024) (d : Fin 128) :
    (V3 m (outs m) c main_v26 : FVec Ideal S1x1024x16x128 .bf16) (ix4 0 r h d) = OUT m c (ix3 h r d) := by
  have e : (V3 m (outs m) c main_v26 : FVec Ideal S1x1024x16x128 .bf16)
      = broadcastInDim S1x1024x16x128 ![1, 2, 3] bcast_S1024x16x128_S1x1024x16x128_1_2_3
          (transpose S1024x16x128 [1, 0, 2] (V2 m (outs m) c main_v24 : FVec Ideal S16x1024x128 .bf16) transposes_S16x1024x128_S1024x16x128_1_0_2) := by
    unfold V3
    after_results
  rw [e, V2_24]
  pointwise []

end Cert.Proof.Att

end
-- ==== Proof.ValueRef.lean ====
module

public import proofs.«01_k».proof.Proof.Gen.ReferenceIdeal.Run
public import proofs.«01_k».proof.Proof.Softmax

/-! What the reference leaves, element by element. -/

@[expose] public section

set_option maxRecDepth 16384

noncomputable section

namespace Cert.Proof.Ref

open Cert.ReferenceIdeal Cert.ReferenceIdeal.Gen
open Idealize.ShloMosaic Idealize.ShloMosaic.TcCoe Idealize.SL.Sem

/-- The scale. -/
abbrev cS : EReal := Ideal.ofBits .f32 0x3DB504F3#32

def SCORE (q k : FVec Ideal S1x2048x16x128 .f32) : FVec Ideal S1x16x2048x2048 .f32 :=
  mulf (Host.dotGeneral dot_S1x2048x16x128_S1x2048x16x128_S1x16x2048x2048_3_3_1_1_02_02 none q k) (broadcastInDim S1x16x2048x2048 ![] bcast_S_S1x16x2048x2048 (constant S_ .f32 0x3DB504F3#32))
def TOPS (q k : FVec Ideal S1x2048x16x128 .f32) : FVec Ideal S1x16x2048 .f32 :=
  Host.reduce FloatOps.maximumf (SCORE q k) (constant S_ .f32 0xFF800000#32) reducesTo_S1x16x2048x2048_S1x16x2048_d3 h_S_
def NUM (q k : FVec Ideal S1x2048x16x128 .f32) : FVec Ideal S1x16x2048x2048 .f32 :=
  Host.exp (subf (SCORE q k) (broadcastInDim S1x16x2048x2048 ![0, 1, 2, 3] bcast_S1x16x2048x1_S1x16x2048x2048_0_1_2_3 (broadcastInDim S1x16x2048x1 ![0, 1, 2] bcast_S1x16x2048_S1x16x2048x1_0_1_2 (TOPS q k))))
def REF (q k v : FVec Ideal S1x2048x16x128 .f32) : FVec Ideal S1x2048x16x128 .bf16 :=
  truncf .bf16 (transpose S1x2048x16x128 [0, 3, 1, 2] (Host.dotGeneral dot_S1x2048x16x128_S1x16x2048x2048_S1x16x128x2048_1_3_3_2_02_01 none v (Host.divf (NUM q k) (broadcastInDim S1x16x2048x2048 ![0, 1, 2, 3] bcast_S1x16x2048x1_S1x16x2048x2048_0_1_2_3 (broadcastInDim S1x16x2048x1 ![0, 1, 2] bcast_S1x16x2048_S1x16x2048x1_0_1_2 (Host.reduceAdd (NUM q k) (constant S_ .f32 0x00000000#32) reducesTo_S1x16x2048x2048_S1x16x2048_d3 h_S_))))) transposes_S1x16x128x2048_S1x2048x16x128_0_3_1_2) bitsLt_bf16_f32

/-- The run's result is this function of the arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v14) = REF (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceIdeal.Value.run (F := Ideal) m ρ

variable (q k v : FVec Ideal S1x2048x16x128 .f32)

theorem SCORE_apply (h : Fin 16) (r j : Fin 2048) : SCORE q k (ix4 0 h r j) = (∑ e : Fin 128, q (ix4 0 r h e) * k (ix4 0 j h e)) * cS := by
  pointwise [SCORE]

theorem ofBits_neg_inf : Ideal.ofBits .f32 0xFF800000#32 = (⊥ : EReal) := by
  simp [Ideal.ofBits, Ideal.ieee]

theorem TOPS_apply (h : Fin 16) (r : Fin 2048) : TOPS q k (ix3 0 h r) = Finset.univ.fold max (⊥ : EReal) fun j : Fin 2048 => SCORE q k (ix4 0 h r j) := by
  pointwise [TOPS]
  rw [ofBits_neg_inf]

theorem NUM_apply (h : Fin 16) (r j : Fin 2048) : NUM q k (ix4 0 h r j) = Ideal.exp (SCORE q k (ix4 0 h r j) - TOPS q k (ix3 0 h r)) := by
  pointwise [NUM]

theorem REF_apply (h : Fin 16) (r : Fin 2048) (d : Fin 128) :
    REF q k v (ix4 0 r h d) = ∑ j : Fin 2048, v (ix4 0 j h d) * Ideal.div (NUM q k (ix4 0 h r j)) (∑ i : Fin 2048, NUM q k (ix4 0 h r i)) := by
  pointwise [REF]

/-- The reference's result at an element, of real queries and keys. -/
theorem REF_real (q' k' : S1x2048x16x128.Idx → ℝ) (c : ℝ) (hq : ∀ i, q i = (q' i : EReal)) (hk : ∀ i, k i = (k' i : EReal)) (hc : cS = (c : EReal))
    (h : Fin 16) (r : Fin 2048) (d : Fin 128) :
    REF q k v (ix4 0 r h d)
      = Ideal.div (∑ j : Fin 2048, Ideal.exp (∑ e : Fin 128, q (ix4 0 r h e) * cS * k (ix4 0 j h e)) * v (ix4 0 j h d))
          (∑ j : Fin 2048, Ideal.exp (∑ e : Fin 128, q (ix4 0 r h e) * cS * k (ix4 0 j h e))) := by
  rw [REF_apply]
  simp only [NUM_apply, TOPS_apply, SCORE_apply, hq, hk, hc, Att.score_eq', Att.score_eq]
  exact Att.softmax_eq (fun j : Fin 2048 => (∑ e : Fin 128, q' (ix4 0 r h e) * k' (ix4 0 j h e)) * c) fun j => v (ix4 0 j h d)

end Cert.Proof.Ref

end
-- ==== Proof.Value.lean ====
module

public import proofs.«01_k».proof.Defs
public import proofs.«01_k».proof.Proof.ValueKernel
public import proofs.«01_k».proof.Proof.ValueRef

/-! Each device's result is its block of the reference's. -/

@[expose] public section

set_option maxRecDepth 16384

noncomputable section

namespace Cert.Proof.Att

open Cert.KernelIdeal Cert.KernelIdeal.Gen
open Idealize.ShloMosaic Idealize.ShloMosaic.TcCoe

/-! ## Device blocks of a whole array -/

abbrev WH : Shape := ⟨4, ![1, 2048, 16, 128]⟩
/-- Device `c`'s block. -/
abbrev blk {X : Type} (c : Dev nD) (g : WH.Idx → X) : S1x1024x16x128.Idx → X :=
  Layout.blockN ⟨4, ![1, 1024, 16, 128]⟩ ⟨4, ![1, 2048, 16, 128]⟩ (Layout.meshBlock [2, 2] ![[], [1], [], []] c) g
/-- Row `k` of the half of the sequence that the devices with y-coordinate `c mod 2` hold. -/
def glob (c : Dev nD) (k : Fin 1024) : Fin 2048 := ⟨1024 * (c.val % 2) + k.val, by omega⟩

theorem lin_eq : ∀ c : Dev nD, Layout.meshLin [2, 2] c.val [1] = c.val % 2 := by decide
theorem blk_apply {X : Type} (c : Dev nD) (g : WH.Idx → X) (r : Fin 1024) (h : Fin 16) (d : Fin 128) :
    blk c g (ix4 0 r h d) = g (ix4 0 (glob c r) h d) := by
  refine (Layout.blockN_apply _ g _ _).trans (congrArg g ?_)
  have hl := lin_eq c
  funext a
  refine Fin.ext ((Layout.TilesN.idx_val _ _ _ a).trans ?_)
  match a with
  | ⟨0, _⟩ => rfl
  | ⟨1, _⟩ => exact (congrArg (· * 1024 + r.val) hl).trans (by show _ = 1024 * (c.val % 2) + r.val; omega)
  | ⟨2, _⟩ => exact (Nat.zero_mul _).symm ▸ Nat.zero_add _
  | ⟨3, _⟩ => exact (Nat.zero_mul _).symm ▸ Nat.zero_add _

theorem own_mod : ∀ (c : Dev nD) (h : Fin 16), (own c h.val).val % 2 = c.val % 2 := by decide
theorem ynbr_mod : ∀ (c : Dev nD), (ynbr c).val % 2 = 1 - c.val % 2 := by decide
theorem glob_own (c : Dev nD) (h : Fin 16) (k : Fin 1024) : glob (own c h.val) k = glob c k := Fin.ext (congrArg (1024 * · + k.val) (own_mod c h))

/-- The whole sequence is a device's half and its partner's. -/
theorem sum_halves (c : Dev nD) (f : Fin 2048 → EReal) : (∑ k : Fin 1024, f (glob c k)) + ∑ k : Fin 1024, f (glob (ynbr c) k) = ∑ j : Fin 2048, f j := by
  rw [Fin.sum_univ_two_halves 1024 1024 rfl f]
  have hy := ynbr_mod c
  rcases Nat.mod_two_eq_zero_or_one c.val with h0 | h0
  · refine congrArg₂ (· + ·) (Finset.sum_congr rfl fun k _ => congrArg f (Fin.ext ?_)) (Finset.sum_congr rfl fun k _ => congrArg f (Fin.ext ?_))
    · show 1024 * (c.val % 2) + k.val = k.val; omega
    · show 1024 * ((ynbr c).val % 2) + k.val = 1024 + k.val; omega
  · rw [add_comm]
    refine congrArg₂ (· + ·) (Finset.sum_congr rfl fun k _ => congrArg f (Fin.ext ?_)) (Finset.sum_congr rfl fun k _ => congrArg f (Fin.ext ?_))
    · show 1024 * ((ynbr c).val % 2) + k.val = k.val; omega
    · show 1024 * (c.val % 2) + k.val = 1024 + k.val; omega

/-! ## Finite queries and keys -/

instance preFacts : Cert.Pre_finite_queries_and_keys_KernelIdeal.Facts := ⟨by decide⟩
instance preFactsR : Cert.Pre_finite_queries_and_keys_ReferenceIdeal.Facts := ⟨by decide⟩

theorem scale_real : ∃ c : ℝ, Ideal.ofBits .f32 0x3DB504F3#32 = (c : EReal) := by
  simp [Ideal.ofBits, Ideal.ieee]
  exact ⟨_, rfl⟩

variable (m : (ℓ : Loc nD τ sig) → Buf (Elt Ideal) ℓ)

theorem and_of_one : ∀ a b : Bool, IntOp.andi (BitVec.ofBool a) (BitVec.ofBool b) = 1#1 → a = true ∧ b = true := by decide
theorem ofBits_inf : Ideal.ofBits .f32 0x7F800000#32 = (⊤ : EReal) := by
  simp [Ideal.ofBits, Ideal.ieee]

theorem finite_of_pre (hp : Cert.Pre_KernelIdeal_finite_queries_and_keys_KernelIdeal m) (c : Dev nD) (i : S1x1024x16x128.Idx) :
    (AQ m c i ≠ ⊤ ∧ AQ m c i ≠ ⊥) ∧ (AK m c i ≠ ⊤ ∧ AK m c i ≠ ⊥) := by
  have h := congrFun (hp c) i
  pointwise [Cert.Pre_finite_queries_and_keys_KernelIdeal.fn] at h
  obtain ⟨h₁, h₂⟩ := and_of_one _ _ h
  have lt {x : EReal} (hx : max x (-x) < Ideal.ofBits .f32 0x7F800000#32) : x ≠ ⊤ ∧ x ≠ ⊥ := by
    rw [ofBits_inf, max_lt_iff] at hx
    exact ⟨hx.1.ne, fun hb => absurd hx.2 (by rw [hb]; simp)⟩
  exact ⟨lt (of_decide_eq_true h₁), lt (of_decide_eq_true h₂)⟩

variable (Qg Kg Vg : FVec Ideal WH .f32)

theorem real_of_blocks (A : (c : Dev nD) → FVec Ideal S1x1024x16x128 .f32) (G : FVec Ideal WH .f32) (hA : ∀ c, A c = blk c G)
    (hf : ∀ c i, A c i ≠ ⊤ ∧ A c i ≠ ⊥) (i : WH.Idx) : G i = (((G i).toReal : ℝ) : EReal) := by
  obtain ⟨r, h, d, rfl⟩ : ∃ (r : Fin 2048) (h : Fin 16) (d : Fin 128), i = ix4 0 r h d := ⟨i 1, i 2, i 3, by rw [eq_ix4 i]; congr 1; exact Subsingleton.elim (α := Fin 1) _ _⟩
  let c : Dev nD := ⟨r.val / 1024, by have := r.isLt; show _ < 4; omega⟩
  have e : A c (ix4 0 ⟨r.val % 1024, Nat.mod_lt _ (by decide)⟩ h d) = G (ix4 0 r h d) := by
    rw [hA, blk_apply]
    refine congrArg (fun r => G (ix4 0 r h d)) (Fin.ext ?_)
    show 1024 * (r.val / 1024 % 2) + r.val % 1024 = r.val
    have := r.isLt; omega
  have h := hf c (ix4 0 ⟨r.val % 1024, Nat.mod_lt _ (by decide)⟩ h d)
  rw [e] at h
  exact (EReal.coe_toReal h.1 h.2).symm

/-- Each device's result is its block of the reference's. -/
theorem value_eq (hp : Cert.Pre_KernelIdeal_finite_queries_and_keys_KernelIdeal m)
    (hQ : ∀ c, AQ m c = blk c Qg) (hK : ∀ c, AK m c = blk c Kg) (hV : ∀ c, AV m c = blk c Vg) (c : Dev nD) :
    (V3 m (outs m) c main_v26 : FVec Ideal S1x1024x16x128 .bf16) = blk c (Cert.Proof.Ref.REF Qg Kg Vg) := by
  funext i
  obtain ⟨r, h, d, rfl⟩ : ∃ (r : Fin 1024) (h : Fin 16) (d : Fin 128), i = ix4 0 r h d := ⟨i 1, i 2, i 3, by rw [eq_ix4 i]; congr 1; exact Subsingleton.elim (α := Fin 1) _ _⟩
  obtain ⟨s, hs⟩ := scale_real
  have hq := real_of_blocks (AQ m) Qg hQ fun c i => (finite_of_pre m hp c i).1
  have hk := real_of_blocks (AK m) Kg hK fun c i => (finite_of_pre m hp c i).2
  have hw : ∀ (o p : Dev nD) (k : Fin 1024), wt m o p h r k
      = Ideal.exp (∑ e : Fin 128, Qg (ix4 0 (glob o r) h e) * cK * Kg (ix4 0 (glob p k) h e)) := fun o p k => by
    unfold wt
    simp only [hQ, hK, blk_apply]
  rw [V3_apply, OUT_apply, blk_apply, Cert.Proof.Ref.REF_real Qg Kg Vg _ _ s hq hk hs]
  simp only [hw, hV, blk_apply]
  rw [sum_halves (own c h.val) fun j => Ideal.exp (∑ e : Fin 128, Qg (ix4 0 (glob (own c h.val) r) h e) * cK * Kg (ix4 0 j h e)),
    sum_halves (own c h.val) fun j => Ideal.exp (∑ e : Fin 128, Qg (ix4 0 (glob (own c h.val) r) h e) * cK * Kg (ix4 0 j h e)) * Vg (ix4 0 j h d), glob_own]

end Cert.Proof.Att

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel and its idealization have one text. -/
theorem defs₀_eq : @Cert.Kernel.defs₀ Bits _ _ = @Cert.KernelIdeal.defs₀ Bits _ _ := by
  funext p ℓ x
  match p, ℓ, x with
  | .tc, ⟨0, _⟩, (t, s) => rfl
  | .tc, ⟨n + 1, h⟩, _ => exact absurd h (by omega)
  | .scScalar _, _, _ => rfl
  | .scVector _ _, _, _ => rfl
theorem defs_eq : @Cert.Kernel.defs Bits _ _ = @Cert.KernelIdeal.defs Bits _ _ := congrArg (Pipeline.defs Cert.KernelIdeal.pcfgs) defs₀_eq

theorem frame_kernel : Cert.quiescent_Kernel (hKernel := Cert.Kernel.Gen.facts) := fun m ρ _ => by
  rw [show @Cert.Kernel.defs Bits _ Cert.Kernel.Gen.facts = @Cert.KernelIdeal.defs Bits _ _ from defs_eq]
  exact Att.run_frame (F := Bits) m ρ

theorem frame_ideal : Cert.quiescent_KernelIdeal (hKernelIdeal := Cert.KernelIdeal.Gen.facts) := fun m ρ _ => Att.run_frame (F := Ideal) m ρ

theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩) (Cert.ReferenceIdeal.Value.run (F := Ideal) m ρ)

theorem frame_ideal_pre : Cert.quiescent_KernelIdeal_pre_finite_queries_and_keys_KernelIdeal (hKernelIdeal := Cert.KernelIdeal.Gen.facts)
    (hPre_finite_queries_and_keys_KernelIdeal := Att.preFacts) := fun m ρ _ => Att.run_frame (F := Ideal) m ρ

theorem frame_reference_pre : Cert.quiescent_ReferenceIdeal_pre_finite_queries_and_keys_ReferenceIdeal (hReferenceIdeal := Cert.ReferenceIdeal.Gen.facts)
    (hPre_finite_queries_and_keys_ReferenceIdeal := Att.preFactsR) := fun m ρ _ => frame_reference m ρ trivial

/-- Over the extended reals each device ends with its block of the reference's result. -/
theorem value : Cert.algebraic_KernelIdeal_ReferenceIdeal_pre_finite_queries_and_keys_KernelIdeal (hKernelIdeal := Cert.KernelIdeal.Gen.facts)
    (hReferenceIdeal := Cert.ReferenceIdeal.Gen.facts) (hPre_finite_queries_and_keys_KernelIdeal := Att.preFacts) := fun m ρ m' ρ' hp hb =>
  ⟨Ref.REF (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)),
    (θ_run Cert.KernelIdeal.defs _ _).mono (fun r h c =>
      ⟨(h.1 c).2.2.2.trans (Att.value_eq m _ _ _ hp (fun c => (hb c).1) (fun c => (hb c).2.1) (fun c => (hb c).2.2) c), (h.1 c).1, (h.1 c).2.1, (h.1 c).2.2.1⟩)
      (Att.run_read (F := Ideal) m ρ),
    (θ_run Cert.ReferenceIdeal.defs _ _).mono (fun r h => h 0) (Ref.run m' ρ')⟩

theorem claim : Cert.Claim :=
  ⟨Cert.Kernel.Gen.facts, Cert.KernelIdeal.Gen.facts, Cert.ReferenceIdeal.Gen.facts, Att.preFacts, Att.preFactsR,
    frame_kernel, frame_ideal, frame_ideal_pre, frame_reference, frame_reference_pre, trivial, value⟩

end Cert.Proof

end
